-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_in_vocab [hPre_finite_in_vocab : Cert.Pre_finite_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_vocab [hPre_finite_in_vocab : Cert.Pre_finite_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in_vocab [hKernelIdeal : Cert.KernelIdeal.Facts] [hPre_finite_in_vocab : Cert.Pre_finite_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in_vocab [hReferenceIdeal : Cert.ReferenceIdeal.Facts] [hPre_finite_in_vocab : Cert.Pre_finite_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_in_vocab [hKernelIdeal : Cert.KernelIdeal.Facts] [hReferenceIdeal : Cert.ReferenceIdeal.Facts] [hPre_finite_in_vocab : Cert.Pre_finite_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_vocab : Cert.Pre_in_vocab.Facts) (hPre_finite_in_vocab : Cert.Pre_finite_in_vocab.Facts),
    quiescent_Kernel (hKernel := hKernel) (hPre_in_vocab := hPre_in_vocab)
    ∧ quiescent_KernelIdeal (hKernelIdeal := hKernelIdeal) (hPre_in_vocab := hPre_in_vocab)
    ∧ quiescent_KernelIdeal_pre_finite_in_vocab (hKernelIdeal := hKernelIdeal) (hPre_finite_in_vocab := hPre_finite_in_vocab)
    ∧ quiescent_ReferenceIdeal (hReferenceIdeal := hReferenceIdeal)
    ∧ quiescent_ReferenceIdeal_pre_finite_in_vocab (hReferenceIdeal := hReferenceIdeal) (hPre_finite_in_vocab := hPre_finite_in_vocab)
    ∧ preserves_Kernel_KernelIdeal
    ∧ algebraic_KernelIdeal_ReferenceIdeal_pre_finite_in_vocab (hKernelIdeal := hKernelIdeal) (hReferenceIdeal := hReferenceIdeal) (hPre_finite_in_vocab := hPre_finite_in_vocab)
-- ==== Pre_finite_in_vocab.lean ====
abbrev S20 : Shape := ⟨1, ![20]⟩
abbrev S100000x32 : Shape := ⟨2, ![100000, 32]⟩
abbrev S100000x640 : Shape := ⟨2, ![100000, 640]⟩
abbrev S100000 : Shape := ⟨1, ![100000]⟩
abbrev S_ : Shape := ⟨0, ![]⟩

class Facts : Prop where
  bcast_S_S20 : S_.BroadcastsInDim S20 (![] : Fin 0 → Fin S20.rank)
  reducesTo_S20_S_d0 : S20.ReducesTo [0] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S100000x640 : S_.BroadcastsInDim S100000x640 (![] : Fin 0 → Fin S100000x640.rank)
  reducesTo_S100000x640_S_d0_1 : S100000x640.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_v15 : IVec S_ 1) (main_v16 : FVec F S100000 .f32) : IVec S_ 1 :=
  let main_cst_5 : FVec F S_ .f32 := constant S_ .f32 0x7F800000#32
  let main_v17 : FVec F S100000 .f32 := broadcastInDim S100000 ![] bcast_S_S100000 main_cst_5
  let main_v18 : IVec S100000 1 := cmpf .olt main_v16 main_v17
  let main_c_6 : IVec S_ 1 := constantI S_ 1 1#1
  let main_v19 : IVec S_ 1 := (fun x v => Host.reduce IntOp.andi x v reducesTo_S100000_S_d0 h_S_) main_v18 main_c_6
  let main_v20 : IVec S_ 1 := andi main_v15 main_v19
  main_v20

def fn {F : FTy → Type} [FloatOps F] (main_arg0 : IVec S20 32) (main_arg1 : FVec F S100000x32 .f32) (main_arg2 : FVec F S100000x640 .f32) (main_arg3 : FVec F S100000 .f32) : IVec S_ 1 :=
  let main_c : IVec S_ 32 := constantI S_ 32 0#32
  let main_v0 : IVec S20 32 := broadcastInDim S20 ![] bcast_S_S20 main_c
  let main_v1 : IVec S20 1 := cmpi .sge main_arg0 main_v0
  let main_c_0 : IVec S_ 32 := constantI S_ 32 100000#32
  let main_v2 : IVec S20 32 := broadcastInDim S20 ![] bcast_S_S20 main_c_0
  let main_v3 : IVec S20 1 := cmpi .slt main_arg0 main_v2
  let main_v4 : IVec S20 1 := andi main_v1 main_v3
  let main_c_1 : IVec S_ 1 := constantI S_ 1 1#1
  let main_v5 : IVec S_ 1 := (fun x v => Host.reduce IntOp.andi x v reducesTo_S20_S_d0 h_S_) main_v4 main_c_1
  let main_v6 : FVec F S100000x32 .f32 := Host.absf main_arg1
  let main_cst : FVec F S_ .f32 := constant S_ .f32 0x7F800000#32
  let main_v7 : FVec F S100000x32 .f32 := broadcastInDim S100000x32 ![] bcast_S_S100000x32 main_cst
  let main_v8 : IVec S100000x32 1 := cmpf .olt main_v6 main_v7
  let main_c_2 : IVec S_ 1 := constantI S_ 1 1#1
  let main_v9 : IVec S_ 1 := (fun x v => Host.reduce IntOp.andi x v reducesTo_S100000x32_S_d0_1 h_S_) main_v8 main_c_2
  let main_v10 : IVec S_ 1 := andi main_v5 main_v9
  let main_v11 : FVec F S100000x640 .f32 := Host.absf main_arg2
  let main_cst_3 : FVec F S_ .f32 := constant S_ .f32 0x7F800000#32
  let main_v12 : FVec F S100000x640 .f32 := broadcastInDim S100000x640 ![] bcast_S_S100000x640 main_cst_3
  let main_v13 : IVec S100000x640 1 := cmpf .olt main_v11 main_v12
  let main_c_4 : IVec S_ 1 := constantI S_ 1 1#1
  let main_v14 : IVec S_ 1 := (fun x v => Host.reduce IntOp.andi x v reducesTo_S100000x640_S_d0_1 h_S_) main_v13 main_c_4
  let main_v15 : IVec S_ 1 := andi main_v10 main_v14
  let main_v16 : FVec F S100000 .f32 := Host.absf main_arg3
  fn_part1 (F := F) main_v15 main_v16
-- ==== Pre_in_vocab.lean ====
abbrev S20 : Shape := ⟨1, ![20]⟩
abbrev S100000x32 : Shape := ⟨2, ![100000, 32]⟩
abbrev S100000x640 : Shape := ⟨2, ![100000, 640]⟩
abbrev S100000 : Shape := ⟨1, ![100000]⟩
abbrev S_ : Shape := ⟨0, ![]⟩

class Facts : Prop where
  bcast_S_S20 : S_.BroadcastsInDim S20 (![] : Fin 0 → Fin S20.rank)
  reducesTo_S20_S_d0 : S20.ReducesTo [0] S_
  h_S_ : 0 < S_.numel

variable [Facts]

def fn {F : FTy → Type} [FloatOps F] (main_arg0 : IVec S20 32) (main_arg1 : FVec F S100000x32 .f32) (main_arg2 : FVec F S100000x640 .f32) (main_arg3 : FVec F S100000 .f32) : IVec S_ 1 :=
  let main_c : IVec S_ 32 := constantI S_ 32 0#32
  let main_v0 : IVec S20 32 := broadcastInDim S20 ![] bcast_S_S20 main_c
  let main_v1 : IVec S20 1 := cmpi .sge main_arg0 main_v0
  let main_c_0 : IVec S_ 32 := constantI S_ 32 100000#32
  let main_v2 : IVec S20 32 := broadcastInDim S20 ![] bcast_S_S20 main_c_0
  let main_v3 : IVec S20 1 := cmpi .slt main_arg0 main_v2
  let main_v4 : IVec S20 1 := andi main_v1 main_v3
  let main_c_1 : IVec S_ 1 := constantI S_ 1 1#1
  let main_v5 : IVec S_ 1 := (fun x v => Host.reduce IntOp.andi x v reducesTo_S20_S_d0 h_S_) main_v4 main_c_1
  main_v5
-- ==== Kernel.lean ====
abbrev S20 : Shape := ⟨1, ![20]⟩
abbrev S100000x32 : Shape := ⟨2, ![100000, 32]⟩
abbrev S100000x640 : Shape := ⟨2, ![100000, 640]⟩
abbrev S100000 : Shape := ⟨1, ![100000]⟩
abbrev S20x1x32 : Shape := ⟨3, ![20, 1, 32]⟩
abbrev S8x32 : Shape := ⟨2, ![8, 32]⟩
abbrev S1 : Shape := ⟨1, ![1]⟩
abbrev S1x1x32 : Shape := ⟨3, ![1, 1, 32]⟩
abbrev S1x32 : Shape := ⟨2, ![1, 32]⟩
abbrev S20x32 : Shape := ⟨2, ![20, 32]⟩
abbrev S25x1x4000 : Shape := ⟨3, ![25, 1, 4000]⟩
abbrev S25x4000 : Shape := ⟨2, ![25, 4000]⟩
abbrev S2000x640 : Shape := ⟨2, ![2000, 640]⟩
abbrev S1x1x4000 : Shape := ⟨3, ![1, 1, 4000]⟩
abbrev S1x640 : Shape := ⟨2, ![1, 640]⟩
abbrev S2 : Shape := ⟨1, ![2]⟩
abbrev S1x2000 : Shape := ⟨2, ![1, 2000]⟩
abbrev S1x1x2000 : Shape := ⟨3, ![1, 1, 2000]⟩
abbrev S1x1x1 : Shape := ⟨3, ![1, 1, 1]⟩
abbrev S1x100000 : Shape := ⟨2, ![1, 100000]⟩

abbrev nBuf : Space → Nat
  | .hbm => 8
  | .vmem => 13
  | .smem => 2
  | _ => 0

abbrev bufTy : (tb : Table) → Fin (tcTables nBuf tb) → BufTy
  | .hbm, ⟨0, _⟩ => ⟨S100000x32, .f32⟩
  | .hbm, ⟨1, _⟩ => ⟨S100000x640, .f32⟩
  | .hbm, ⟨2, _⟩ => ⟨S100000, .f32⟩
  | .hbm, ⟨3, _⟩ => ⟨S20x1x32, .f32⟩
  | .hbm, ⟨4, _⟩ => ⟨S20x32, .f32⟩
  | .hbm, ⟨5, _⟩ => ⟨S25x1x4000, .f32⟩
  | .hbm, ⟨6, _⟩ => ⟨S25x4000, .f32⟩
  | .hbm, ⟨7, _⟩ => ⟨S1x100000, .f32⟩
  | .local _ .vmem, ⟨0, _⟩ => ⟨S8x32, .f32⟩
  | .local _ .vmem, ⟨1, _⟩ => ⟨S8x32, .f32⟩
  | .local _ .vmem, ⟨2, _⟩ => ⟨S1x1x32, .f32⟩
  | .local _ .vmem, ⟨3, _⟩ => ⟨S1x1x32, .f32⟩
  | .local _ .vmem, ⟨4, _⟩ => ⟨S20x32, .f32⟩
  | .local _ .vmem, ⟨5, _⟩ => ⟨S2000x640, .f32⟩
  | .local _ .vmem, ⟨6, _⟩ => ⟨S2000x640, .f32⟩
  | .local _ .vmem, ⟨7, _⟩ => ⟨S2000x640, .f32⟩
  | .local _ .vmem, ⟨8, _⟩ => ⟨S2000x640, .f32⟩
  | .local _ .vmem, ⟨9, _⟩ => ⟨S1x1x4000, .f32⟩
  | .local _ .vmem, ⟨10, _⟩ => ⟨S1x1x4000, .f32⟩
  | .local _ .vmem, ⟨11, _⟩ => ⟨S25x4000, .f32⟩
  | .local _ .vmem, ⟨12, _⟩ => ⟨S1x640, .f32⟩
  | .local _ .smem, ⟨0, _⟩ => ⟨S20, .i32⟩
  | .local _ .smem, ⟨1, _⟩ => ⟨S2, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_scratch0 : Ref sig .tc := ⟨.vmem, 12, rfl⟩
abbrev cc1_scratch1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11

abbrev nD : Nat := 1
abbrev τ : Topo := Topo.v7x

variable {F : FTy → Type} [FloatOps F]

abbrev grid0 : Pipeline.Grid := ⟨1, ![20], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : Index := Scalar.indexCast v11
  let c0 : Index := 0#32
  ![v12.toNat, 0]

def k0_chk1 (v1 : BitVec 32) : Prop :=
  (∀ a, (k0_off2 v1) a + S1x32.size a ≤ S8x32.size a)
theorem k0_off2_inb : ∀ (v1 : BitVec 32) (k0_hw1 : k0_chk1 v1), ∀ a, (k0_off2 v1) a + S1x32.size a ≤ S8x32.size a := fun v1 k0_hw1 => k0_hw1

def cc0_transform_0 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S20) ![v0.toNat] S1.size (k0_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![25], ![false]⟩

def k1_off1 (i : grid1.Coords) : Fin 2 → Nat :=
  let arg0 : BitVec 32 := BitVec.ofNat 32 (i 0).val
  let v15 : Index := Scalar.indexCast arg0
  let c0_14 : Index := 0#32
  ![v15.toNat, 0]
def k1_off2 (i : grid1.Coords) : Fin 2 → Nat :=
  let arg0 : BitVec 32 := BitVec.ofNat 32 (i 0).val
  let v17 : Index := Scalar.indexCast arg0
  let c2000_15 : Index := 2000#32
  ![v17.toNat, 2000]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S20x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2000x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x4000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S25x4000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== ReferenceIdeal.lean ====
abbrev S20 : Shape := ⟨1, ![20]⟩
abbrev S100000x32 : Shape := ⟨2, ![100000, 32]⟩
abbrev S100000x640 : Shape := ⟨2, ![100000, 640]⟩
abbrev S100000 : Shape := ⟨1, ![100000]⟩
abbrev S_ : Shape := ⟨0, ![]⟩
abbrev S20x1 : Shape := ⟨2, ![20, 1]⟩
abbrev S1 : Shape := ⟨1, ![1]⟩
abbrev S1x1 : Shape := ⟨2, ![1, 1]⟩
abbrev S20x32 : Shape := ⟨2, ![20, 32]⟩
abbrev S1x640 : Shape := ⟨2, ![1, 640]⟩
abbrev S640x100000 : Shape := ⟨2, ![640, 100000]⟩
abbrev S1x100000 : Shape := ⟨2, ![1, 100000]⟩

abbrev nBuf : Space → Nat
  | .hbm => 47
  | .vmem => 0
  | .smem => 0
  | _ => 0

abbrev bufTy : (tb : Table) → Fin (tcTables nBuf tb) → BufTy
  | .hbm, ⟨0, _⟩ => ⟨S20, .i32⟩
  | .hbm, ⟨1, _⟩ => ⟨S100000x32, .f32⟩
  | .hbm, ⟨2, _⟩ => ⟨S100000x640, .f32⟩
  | .hbm, ⟨3, _⟩ => ⟨S100000, .f32⟩
  | .hbm, ⟨4, _⟩ => ⟨S_, .i32⟩
  | .hbm, ⟨5, _⟩ => ⟨S20, .i32⟩
  | .hbm, ⟨6, _⟩ => ⟨S20, .i1⟩
  | .hbm, ⟨7, _⟩ => ⟨S_, .i32⟩
  | .hbm, ⟨8, _⟩ => ⟨S20, .i32⟩
  | .hbm, ⟨9, _⟩ => ⟨S20, .i32⟩
  | .hbm, ⟨10, _⟩ => ⟨S20, .i32⟩
  | .hbm, ⟨11, _⟩ => ⟨S20x1, .i32⟩
  | .hbm, ⟨12, _⟩ => ⟨S1, .i32⟩
  | .hbm, ⟨13, _⟩ => ⟨S_, .i32⟩
  | .hbm, ⟨14, _⟩ => ⟨S20x1, .i32⟩
  | .hbm, ⟨15, _⟩ => ⟨S20x1, .i1⟩
  | .hbm, ⟨16, _⟩ => ⟨S1x1, .i32⟩
  | .hbm, ⟨17, _⟩ => ⟨S20x1, .i32⟩
  | .hbm, ⟨18, _⟩ => ⟨S20x1, .i1⟩
  | .hbm, ⟨19, _⟩ => ⟨S20x1, .i1⟩
  | .hbm, ⟨20, _⟩ => ⟨S_, .i1⟩
  | .hbm, ⟨21, _⟩ => ⟨S20, .i1⟩
  | .hbm, ⟨22, _⟩ => ⟨S20x32, .f32⟩
  | .hbm, ⟨23, _⟩ => ⟨S20x32, .i1⟩
  | .hbm, ⟨24, _⟩ => ⟨S_, .f32⟩
  | .hbm, ⟨25, _⟩ => ⟨S20x32, .f32⟩
  | .hbm, ⟨26, _⟩ => ⟨S20x32, .f32⟩
  | .hbm, ⟨27, _⟩ => ⟨S1x640, .f32⟩
  | .hbm, ⟨28, _⟩ => ⟨S640x100000, .f32⟩
  | .hbm, ⟨29, _⟩ => ⟨S1x100000, .f32⟩
  | .hbm, ⟨30, _⟩ => ⟨S1x100000, .f32⟩
  | .hbm, ⟨31, _⟩ => ⟨S1x100000, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1x1, .f32⟩
  | .hbm, ⟨38, _⟩ => ⟨S1x100000, .f32⟩
  | .hbm, ⟨39, _⟩ => ⟨S1x100000, .f32⟩
  | .hbm, ⟨40, _⟩ => ⟨S1x100000, .f32⟩
  | .hbm, ⟨41, _⟩ => ⟨S_, .f32⟩
  | .hbm, ⟨42, _⟩ => ⟨S1, .f32⟩
  | .hbm, ⟨43, _⟩ => ⟨S1x1, .f32⟩
  | .hbm, ⟨44, _⟩ => ⟨S1x1, .f32⟩
  | .hbm, ⟨45, _⟩ => ⟨S1x100000, .f32⟩
  | .hbm, ⟨46, _⟩ => ⟨S1x100000, .f32⟩
  | _, _ => ⟨S20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_call1_cst : Ref sig .tc := ⟨.hbm, 32, rfl⟩
abbrev main_call1_v0 : Ref sig .tc := ⟨.hbm, 33, rfl⟩
abbrev main_call1_cst_0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_cst_1 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_v6 : Ref sig .tc := ⟨.hbm, 46, rfl⟩

abbrev nD : Nat := 1
abbrev τ : Topo := Topo.v7x

variable {F : FTy → Type} [FloatOps F]
-- ==== Proof.Whole.lean ====
/-
  A store that covers a whole buffer, read back.
-/
module

public import Idealize.ShloMosaic.Lib.Pipeline.FrameBody
public import Idealize.ShloMosaic.Lib.Pipeline.Value
public import Idealize.ShloMosaic.Lib.WritesUnit

@[expose] public section

noncomputable section

namespace Cert.Shared

open Idealize.ShloMosaic

variable {sig : RefSig} {κ : Kind} {sp : Space} {S : Shape} {e : EltTy} (Val : EltTy → Type)

/-- After a store to the whole of a view's shape, at offset zero and over whatever was stored before, the view reads the stored
    vector. -/
theorem read_writes_whole (v : View sig κ sp S e) (f : BufTy.Contents Val v.ref.ty) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  subst h
  funext x
  have := View.read_writes_cons_emb v f (Rect.whole S) w L x
  rwa [Rect.emb_whole_apply] at this

end Cert.Shared

end
-- ==== Proof.Region.lean ====
/-
  A kernel region between two valuations of the unscoped buffers.

  The region is entered holding every unscoped buffer whole at a valuation `W c` and left holding every one at `W' c`. Its proof
  data are relational (`RDat`), its arrays may be shared among input windows, its tables (if any) are read by the body, and the body
  owes nothing and waits for nothing of its own. Said once, for any program of several regions.
-/
module

public import Idealize.ShloMosaic.Lib.Pipeline.RegionArraysF
public import Idealize.ShloMosaic.Lib.Pipeline.RegionArraysT

@[expose] public section

noncomputable section

namespace Cert.Shared

open Idealize.ShloMosaic Idealize.ShloMosaic.TcCoe Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P]

omit [Fintype P] [Preorder Lvl] in
/-- The arrays after the write-backs below `n` hold some contents, each of which its window may have left. -/
theorem arraysAt_some [∀ e, Nonempty (Val e)] {cfg : Cfg sig Λ₀} {c : Dev nD} (rd : RDat τ Val Ix Name U Lvl cfg c) (n : Nat) :
    (rd.arraysAt n : sProp 𝕄) ⊢ iprop(∃ A : (w : Fin cfg.W) → Buf Val ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

omit [Fintype P] [Preorder Lvl] in
/-- A region's arrays at contents read off a valuation are the buffers behind them held at that valuation, input windows sharing
    a buffer dealt its share. -/
theorem arrays_eq_held {cfg : Cfg sig Λ₀} {c : Dev nD} (rd : RDat τ Val Ix Name U Lvl cfg c) (hs : SharedIn cfg.spec)
    (harr : ∀ w, (cfg.spec w).arr.IsWhole) (hq : ∀ w, (cfg.spec w).isOut = false → rd.q w = shareOf cfg.spec w)
    (A : (w : Fin cfg.W) → Buf Val ((cfg.spec w).arr.view.loc (c.tc : Thread nD τ))) (W : Valuation τ sig Val)
    (hA : ∀ w, A w = W (Proc.devRef .tc (arrRef cfg.spec w))) :
    (rd.arrays A : sProp 𝕄) = StableHlo.held (c.tc : Thread nD τ) (arrRefs cfg.spec) W := by
  rw [← rd.arrBufs_eq_arrays hs harr hq (fun b => W (Proc.devRef .tc b)) A hA]
  unfold arrBufs StableHlo.held arrRefs
  rw [BI.bigSep_map]
  rfl

variable (pcs : P → PCfg sig Λ₀ Val) (a : (p : P) → (pcs p).Adm)
  (rdats : (p : P) → (c : Dev nD) → RDat τ Val Ix Name U Lvl (pin pcs a p) c) (ι : Ix)
  (defs₀ : Defs nD τ sig Val Λ₀) (𝒱₀ : Variants)
  (L : GSem nD τ sig → Finset Ix) (lv : GSem nD τ sig → Ix → Lvl)
  (p : P)

/-- The region's record: from every unscoped buffer at `W c` to every one at `W' c`, the core owing nothing and any `R c` riding
    along. `hW`, `hT`: the proof data's arrays and tables are `W`'s; `hW'`: whatever the arrays may hold at the end is `W'`'s;
    `hrest`: `W'` agrees with `W` off the arrays. The invariant is entered from the scoped buffers no window stages and the tables,
    and gives both back. -/
def regionBetween [∀ e, Nonempty (Val e)] (kit : PLaunchFacts₀ (nD := nD) (τ := τ) pcs p)
    (hbody : ∀ c, (rdats p c).BodyObligation defs₀ 𝒱₀ ι Set.univ)
    (howed : ∀ c t, (rdats p c).owed t = 0) (hrec : ∀ c, (rdats p c).recorded 0 = Set.univ)
    (hq : ∀ c w, ((pcs p).spec w).isOut = false → (rdats p c).q w = shareOf (pcs p).spec w)
    (hin : ∀ c, iprop(scopedRest (pcs p).spec c ∗ prefHeld (pcs p).pre c (fun _ => fullShare) (a p).1) ⊢ (rdats p c).Φ 0)
    (hout : ∀ c, (rdats p c).Φ (Fin.last (pin pcs a p).N)
      ⊢ iprop(scopedRest (pcs p).spec c ∗ prefHeld (pcs p).pre c (fun _ => fullShare) (a p).1))
    (R : Dev nD → sProp 𝕄) (W W' : Dev nD → Valuation τ sig Val)
    (hW : ∀ c w, (rdats p c).A w = W c (Proc.devRef .tc (arrRef (pcs p).spec w)))
    (hT : ∀ c k, (a p).1 k = W c (Proc.devRef .tc ((pcs p).pre.ref k)))
    (hW' : ∀ c (A : (w : Fin (pin pcs a p).W) → Buf Val (((pin pcs a p).win w).arr.view.loc (c.tc : Thread nD τ))),
      (∀ w, (rdats p c).ArrAt w (pin pcs a p).N (A w)) → ∀ w, A w = W' c (Proc.devRef .tc (arrRef (pcs p).spec w)))
    (hrest : ∀ c, ∀ d ∈ ucRefs τ sig \ arrRefs (pcs p).spec, W' c d = W c d) :
    RDat.RegionSeg pcs a rdats ι defs₀ 𝒱₀ L lv p where
  win := kit.win
  block_pos := kit.block_pos
  stage_whole := kit.stage_whole
  K := PEmpty
  osem := PEmpty.elim
  ho := OwnSemFacts.none _
  hbody := hbody
  hwaits c := RDat.hwaits_of_owed_zero pcs a rdats ι L lv p howed c
  pre c := iprop(StableHlo.held (c.tc : Thread nD τ) (ucRefs τ sig) (W c) ∗ R c ∗ ∃ Wd, owes (c : Thread nD τ) (0 : CellTallies nD τ sig Ix) Wd)
  post c := iprop(StableHlo.held (c.tc : Thread nD τ) (ucRefs τ sig) (W' c) ∗ R c ∗ ∃ Wd, owes (c : Thread nD τ) (0 : CellTallies nD τ sig Ix) Wd)
  X _ := iprop(emp)
  Y c := prefHeld (pcs p).pre c (fun _ => fullShare) (a p).1
  Z c := iprop(StableHlo.held (c.tc : Thread nD τ) ((ucRefs τ sig \ arrRefs (pcs p).spec) \ tblRefs (pcs p).pre) (W c) ∗ R c)
  hentry c := by
    rw [arrays_eq_held (rdats p c) kit.sharedIn kit.arr_whole (hq c) _ (W c) (hW c),
      prefHeld_held (pcs p).pre kit.pre.inj c (a p).1 (W c) (hT c),
      StableHlo.held_sub_split (c.tc : Thread nD τ) (arrRefs_sub_ucRefs (pcs p).spec kit.win.arr_unscoped) (W c),
      StableHlo.held_sub_split (c.tc : Thread nD τ) (tblRefs_sub_ucRefs_sdiff (pcs p).spec (pcs p).pre kit.pre.unscoped kit.pre.disj) (W c)]
    iintro ⟨⟨⟨Ha, HT, Hr⟩, HR, HO⟩, -, -⟩
    imodintro
    isplitl [Ha]; · iexact Ha
    isplitl [HT]; · iexact HT
    isplitl [HO]
    · unfold RDat.owesAt owesWithin RDat.bound
      rw [howed c 0, hrec c]
      icases HO with ⟨%Wd, HO⟩; iexists Wd; isplitr; · ipureintro; exact fun _ _ => Or.inl trivial
      iexact HO
    isplitr; · iempintro
    isplitl [Hr]; · iexact Hr
    iexact HR
  hin c := (show _ ⊢ iprop(scopedRest (pcs p).spec c ∗ prefHeld (pcs p).pre c (fun _ => fullShare) (a p).1) from by
    iintro ⟨-, HT, Hr⟩
    isplitl [Hr]; · iexact Hr
    iexact HT).trans (hin c)
  hout c := (hout c).trans (by
    rw [ownSems0_none]
    iintro ⟨Hr, HT⟩
    isplitl [HT]; · iexact HT
    isplitr; · iempintro
    iexact Hr)
  hexit c := by
    iintro ⟨Ha, HO, HT, Hr, HR⟩
    ihave Ha := (arraysAt_some (rdats p c) (pin pcs a p).N) $$ Ha
    icases Ha with ⟨%A, %hA, Ha⟩
    imodintro
    have hr : ∀ d ∈ (ucRefs τ sig \ arrRefs (pcs p).spec) \ tblRefs (pcs p).pre, W' c d = W c d :=
      fun d hd => hrest c d (Finset.mem_sdiff.mp hd).1
    have ht : ∀ k, (a p).1 k = W' c (Proc.devRef .tc ((pcs p).pre.ref k)) := fun k =>
      (hT c k).trans (hrest c _ (tblRefs_sub_ucRefs_sdiff (pcs p).spec (pcs p).pre kit.pre.unscoped kit.pre.disj
        (Finset.mem_map.mpr ⟨_, Finset.mem_image.mpr ⟨k, Finset.mem_univ _, rfl⟩, rfl⟩))).symm
    rw [StableHlo.held_sub_split (c.tc : Thread nD τ) (arrRefs_sub_ucRefs (pcs p).spec kit.win.arr_unscoped) (W' c),
      StableHlo.held_sub_split (c.tc : Thread nD τ) (tblRefs_sub_ucRefs_sdiff (pcs p).spec (pcs p).pre kit.pre.unscoped kit.pre.disj) (W' c),
      StableHlo.held_congr (c.tc : Thread nD τ) hr, ← prefHeld_held (pcs p).pre kit.pre.inj c (a p).1 (W' c) ht,
      ← arrays_eq_held (rdats p c) kit.sharedIn kit.arr_whole (hq c) A (W' c) (hW' c A hA)]
    isplitl [Ha HT Hr]
    · isplitl [Ha]; · iexact Ha
      isplitl [HT]; · iexact HT
      iexact Hr
    isplitl [HR]; · iexact HR
    unfold RDat.owesAt owesWithin
    rw [howed c (Fin.last _)]
    icases HO with ⟨%Wd, -, HO⟩; iexists Wd; iexact HO

end Cert.Shared

end
-- ==== Proof.Ideal.Gather.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.Value
public import Idealize.ShloMosaic.Lib.Tactic
public import Idealize.ShloMosaic.Lib.Routing.Words
public import proofs.«01_k».proof.Proof.Whole

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A memref's buffer on core `c` held whole at `f`. -/
abbrev wholePt (c : Dev nD) {sp : Space} {S : Shape} {e : EltTy} (M : Memref sig .tc sp S e) (f : Buf (Elt F) (M.view.loc (c : Thread nD τ))) : sProp 𝕄 :=
  M.view.loc (c : Thread nD τ) ↦{fullShare} f

abbrev tblM : Memref sig .tc .smem S20 .i32 := Memref.whole main_arg0

/-- The word the body reads at point `i`. -/
abbrev wordAt (c : Dev nD) (i : grid0.Coords) (tbl : Buf (Elt F) (tblM.view.loc (c : Thread nD τ))) : BitVec 32 :=
  View.readAt (Elt F) tblM.view (Rect.unit (s := S20) (k0_off1 i) S1.size (k0_off1_inb i)).toLoadRect tbl (Shape.Idx.first (show 0 < 1 by decide))

theorem gatherRun (c : Dev nD) (i : grid0.Coords) (arg2 : Memref sig .tc .vmem S8x32 .f32) (harg2 : arg2.IsWhole)
    (arg3 : Memref sig .tc .vmem S1x1x32 .f32) (harg3 : arg3.IsWhole)
    (tbl : Buf (Elt F) (tblM.view.loc (c : Thread nD τ))) (hchk : k0_chk1 (wordAt c i tbl)) (x : Vec F S8x32 .f32) (K : PUnit → sProp 𝕄) :
    iprop(wholePt c tblM tbl ∗ owns (c : Thread nD τ) arg2 fullShare x ∗ (∃ d, owns (c : Thread nD τ) arg3 fullShare d)
        ∗ (iprop(wholePt c tblM tbl ∗ owns (c : Thread nD τ) arg2 fullShare x
            ∗ owns (c : Thread nD τ) arg3 fullShare (k0_pay1 (View.ld x (Rect.unit (s := S8x32) (k0_off2 (wordAt c i tbl)) S1x32.size (k0_off2_inb _ hchk))))) -∗ K ⟨⟩))
      ⊢ wp frame (wpE (defs₀ (F := F)) Variants.none c none) Set.univ
          (cc0__gather_body i tblM (Memref.isWhole_whole _) arg2 harg2 arg3 harg3) K := by
  simp only [cc0__gather_body_eq_skeleton]; unfold cc0__gather_body_skel
  simp only [smemLoad, smemLoadElt, Prog.lift, Prog.bind_op, Prog.bind_ret, Prog.pure_eq_ret, Prog.bind_assoc]
  unfold owns
  iintro ⟨HT, ⟨%f2, %h2, H2⟩, ⟨%d3, %f3, -, H3⟩, Hk⟩
  sl_exec (disch := exact hchk)
  sl_step
  iapply Hk
  isplitl [HT]; · iexact HT
  isplitl [H2]
  · iexists f2; isplitr; · ipureintro; exact h2
    iexact H2
  iexists _; isplitr; swap; · iexact H3
  ipureintro
  subst h2
  exact Cert.Shared.read_writes_whole (Elt F) arg3.view _ (by decide) _ _ _

/-! ## The words and what they address -/

/-- The word at point `i` of the table's contents `pf`. -/
abbrev word (pf : pre0.Contents (Elt F)) (i : grid0.Coords) : BitVec 32 :=
  pf.at 0 (Rect.unit (s := S20) (k0_off1 i) S1.size (k0_off1_inb i)) numel1_S1

/-- Every word of the table is a row number of the vocabulary. -/
def InRange (pf : pre0.Contents (Elt F)) : Prop := ∀ j : S20.Idx, (show BitVec 32 from pf 0 j).toNat < 100000

/-- The body's row offset inside the fetched block is the word modulo eight. -/
theorem k0_off2_eq {w : BitVec 32} (hw : w.toNat < 100000) : k0_off2 w = ![w.toNat % 8, 0] := by
  obtain ⟨n, rfl⟩ : ∃ n, w = BitVec.ofNat 32 n := ⟨w.toNat, by simp⟩
  rw [BitVec.toNat_ofNat] at hw ⊢
  generalize hm : n % 2 ^ 32 = m at hw ⊢
  have hn : BitVec.ofNat 32 n = BitVec.ofNat 32 m := by
    apply BitVec.eq_of_toNat_eq; rw [BitVec.toNat_ofNat, BitVec.toNat_ofNat, hm]; omega
  rw [hn]
  unfold k0_off2
  have hr : Scalar.remsi (BitVec.ofNat 32 m) (Scalar.select (Scalar.cmpi .eq 8#32 0#32) 1#32 8#32) = BitVec.ofNat 32 (m % 8) :=
    Routing.remsi_word .scalar (by omega) (by decide) (by decide)
  dsimp only
  rw [hr]
  have h8 : m % 8 < 8 := Nat.mod_lt _ (by decide)
  generalize m % 8 = r at h8 ⊢
  interval_cases r <;> rfl

/-- The block fetched at point `i` is the one the word's row lies in. -/
theorem transform_0_eq (pf : pre0.Contents (Elt F)) (i : grid0.Coords) (hw : (word pf i).toNat < 100000) :
    cc0_transform_0 k0_off1_inb numel1_S1 pf i = ![(word pf i).toNat / 8, 0] := by
  unfold cc0_transform_0
  dsimp only
  generalize hw' : pf.at 0 (Rect.unit (s := S20) ![(Scalar.indexCast (BitVec.ofNat 32 (i 0).val)).toNat] S1.size (k0_off1_inb i)) numel1_S1 = w
  obtain rfl : word pf i = w := hw'
  generalize word pf i = w at hw ⊢
  obtain ⟨n, rfl⟩ : ∃ n, w = BitVec.ofNat 32 n := ⟨w.toNat, by simp⟩
  rw [BitVec.toNat_ofNat] at hw ⊢
  generalize hm : n % 2 ^ 32 = m at hw ⊢
  have hn : BitVec.ofNat 32 n = BitVec.ofNat 32 m := by
    apply BitVec.eq_of_toNat_eq; rw [BitVec.toNat_ofNat, BitVec.toNat_ofNat, hm]; omega
  rw [hn]
  have hr : Scalar.remsi (BitVec.ofNat 32 m) 8#32 = BitVec.ofNat 32 (m % 8) := Routing.remsi_word .scalar (by omega) (by decide) (by decide)
  have hd : Scalar.divsi (BitVec.ofNat 32 m) 8#32 = BitVec.ofNat 32 (m / 8) := Routing.divsi_word .scalar (by omega) (by decide) (by decide)
  rw [hr, hd]
  rcases Nat.eq_zero_or_pos m with rfl | h0
  · rfl
  · have hI : (BitVec.ofNat 32 m).toInt = m := by
      rw [BitVec.toInt_ofNat', Int.bmod_eq_of_le (by omega) (by omega)]
    have hg : Scalar.cmpi .sgt (BitVec.ofNat 32 m) 0#32 = 1#1 := IntOp.cmpi_sgt.2 (by
      rw [hI, show (0#32 : BitVec 32).toInt = 0 from rfl]; omega)
    have hl : Scalar.cmpi .slt (BitVec.ofNat 32 m) 0#32 = 0#1 := by
      have : ¬ Scalar.cmpi .slt (BitVec.ofNat 32 m) 0#32 = 1#1 := fun h => by
        have h := IntOp.cmpi_slt.1 h
        rw [hI, show (0#32 : BitVec 32).toInt = 0 from rfl] at h
        omega
      generalize Scalar.cmpi .slt (BitVec.ofNat 32 m) 0#32 = b at this ⊢
      revert b; decide
    rw [hg, hl]
    have hz : ∀ b : BitVec 1, Scalar.andi (Scalar.cmpi .ne (Scalar.subi (Scalar.extui 1#1) (Scalar.extui 0#1) : BitVec 32)
        (Scalar.subi (Scalar.extui (Scalar.cmpi .sgt 8#32 0#32)) (Scalar.extui (Scalar.cmpi .slt 8#32 0#32)))) b = 0#1 := by decide
    rw [hz]
    show ![(BitVec.ofNat 32 (m / 8)).toNat, 0] = _
    rw [BitVec.toNat_ofNat, Nat.mod_eq_of_lt (by omega), BitVec.toNat_ofNat, Nat.mod_eq_of_lt (by omega)]

/-- A table in range meets the region's side condition: every fetched block lies inside the array. -/
theorem InRange.ok {pf : pre0.Contents (Elt F)} (h : InRange pf) : ok0 pf := fun i => by
  refine ⟨fun a => ?_, .inl rfl⟩
  have hw : (word pf i).toNat < 100000 := h _
  rw [transform_0_eq pf i hw]
  fin_cases a
  · show ((word pf i).toNat / 8 + 1) * 8 ≤ 100000
    omega
  · exact (by decide : (0 + 1) * 32 ≤ 32)

/-- A word in range meets the body's side condition: its row lies inside the fetched block. -/
theorem InRange.chk {pf : pre0.Contents (Elt F)} (h : InRange pf) (i : grid0.Coords) : k0_chk1 (word pf i) := fun a => by
  have hw : (word pf i).toNat < 100000 := h _
  rw [k0_off2_eq hw]
  fin_cases a
  · show (word pf i).toNat % 8 + 1 ≤ 8
    omega
  · exact (by decide : 0 + 32 ≤ 32)

end Cert.KernelIdeal.Hand

end
-- ==== Proof.Ideal.Stage0.lean ====
/-
  The first kernel call, the row gather: what its windows hold, that its body does what the proof data say, and what the array it
  writes holds at the end.
-/
module

public import proofs.«01_k».proof.Proof.Ideal.Gather
public import proofs.«01_k».proof.Proof.Region
public import Idealize.ShloMosaic.Lib.Pipeline.ValueKit.Geometry
public import Idealize.ShloMosaic.Lib.Pipeline.ValueKit.Tiles
public import Idealize.ShloMosaic.Lib.Pipeline.DatRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : Dev nD → Valuation τ sig (Elt F))

/-- The table's contents in the launch valuation. -/
abbrev tblOf : pre0.Contents (Elt F) := fun k => V 0 (Proc.devRef .tc (pre0.ref k))

variable (hV : InRange (tblOf V))

/-- The contents the first call's table is pinned at. -/
abbrev adm0 : (pcfg0 (F := F)).Adm := ⟨tblOf V, hV.ok⟩

/-- The eight-row block of the embedding table fetched at point `t`. -/
def blockIn (c : Dev nD) (t : Fin (cfg0 (adm0 V hV)).N) : Vec F S8x32 .f32 :=
  (((cfg0 (adm0 V hV)).win 0).blk t).view.read (Elt F) (V c (Proc.devRef .tc main_arg1))

/-- The row the body copies out of it. -/
def rowOut (c : Dev nD) (t : Fin (cfg0 (adm0 V hV)).N) : Vec F S1x1x32 .f32 :=
  k0_pay1 (View.ld (blockIn V hV c t) (Rect.unit (s := S8x32) (k0_off2 (word (tblOf V) (grid0.coords t))) S1x32.size (k0_off2_inb _ (hV.chk _))))

/-- The call's proof data: the arrays at the valuation, the input window left as fetched, the output window at the copied row; the
    invariant is the scoped buffers no window stages and the table. -/
def dat0 (c : Dev nD) : Dat τ (Elt F) Unit ℕ (UR sig nD τ) ℕ (cfg0 (adm0 V hV)) c where
  A w := V c (Proc.devRef .tc (Pipeline.arrRef spec0 w))
  after w t := match w with
    | ⟨0, _⟩ => blockIn V hV c t
    | ⟨1, _⟩ => rowOut V hV c t
  Φ _ := iprop(Pipeline.scopedRest spec0 c ∗ wholePt c tblM (tblOf V 0))
  q w := Pipeline.shareOf spec0 w
  owed _ := 0

/-- The body at point `t`, as the pipeline calls it. -/
abbrev bodyAt0 (t : Fin (cfg0 (adm0 V hV)).N) : Prog (TpuEff nD τ sig (Elt F) Λ₀ .tc) PUnit :=
  cc0__gather_body (grid0.coords t) (Memref.whole main_arg0) (Memref.isWhole_whole _)
    (spec0_0.stage ((cfg0 (adm0 V hV)).slots t 0)) (hstage0_0 (((cfg0 (adm0 V hV)).slots t 0).cast nbuf0_0))
    (spec0_1.stage ((cfg0 (adm0 V hV)).slots t 1)) (hstage0_1 (((cfg0 (adm0 V hV)).slots t 1).cast nbuf0_1))

theorem defs₀_row0 (t : Fin (cfg0 (adm0 V hV)).N) :
    (defs₀ .tc (cfg0 (adm0 V hV)).body ((cfg0 (adm0 V hV)).bodyArgs t ((cfg0 (adm0 V hV)).slots t)) : Prog (TpuEff nD τ sig (Elt F) Λ₀ .tc) _)
      = bodyAt0 V hV t := by
  unfold defs₀
  rw [Defs.onTc_tc]

/-- The input window holds the fetched block at every point. -/
theorem before0_0 (c : Dev nD) (t : Fin (cfg0 (adm0 V hV)).N) (d) : (dat0 V hV c).before 0 t d = blockIn V hV c t :=
  (dat0 V hV c).before_in_eq_fetched 0 rfl (fun _ => rfl) (fun _ _ _ => rfl) (fun _ => rfl) t d

omit [FloatOps F] in
/-- The one table held is its buffer held. -/
theorem prefHeld0_eq (c : Dev nD) (pf : pre0.Contents (Elt F)) :
    (Pipeline.prefHeld pre0 c (fun _ => fullShare) pf : sProp 𝕄) = wholePt c tblM (pf 0) := by
  unfold Pipeline.prefHeld
  rw [show (Finset.univ : Finset (Fin pre0.K)) = {0} from rfl, bigSep_singleton]
  rfl

set_option maxHeartbeats 1000000 in
/-- What the library asks of the body. -/
theorem body_obligation0 (c : Dev nD) : BodyObligation (dat0 V hV c) (defs₀ (F := F)) Variants.none () Set.univ := fun t => by
  obtain rfl : c = 0 := Subsingleton.elim _ _
  rw [bigSep_W0, bigSep_W0, defs₀_row0]
  have hrun : iprop((iprop(Pipeline.scopedRest spec0 (0 : Dev nD) ∗ wholePt (0 : Dev nD) tblM (tblOf V 0)) : sProp 𝕄)
        ∗ (dat0 V hV 0).owesAt () t.castSucc
        ∗ (∃ d, owns ((0 : Dev nD) : Thread nD τ) (spec0_0.stage ((cfg0 (adm0 V hV)).slots t 0)) fullShare ((dat0 V hV 0).before 0 t d))
        ∗ (∃ d, owns ((0 : Dev nD) : Thread nD τ) (spec0_1.stage ((cfg0 (adm0 V hV)).slots t 1)) fullShare ((dat0 V hV 0).before 1 t d)))
      ⊢ wp frame (wpE (defs₀ (F := F)) Variants.none (0 : Dev nD) none) Set.univ (bodyAt0 V hV t) fun _ =>
        iprop((iprop(Pipeline.scopedRest spec0 (0 : Dev nD) ∗ wholePt (0 : Dev nD) tblM (tblOf V 0)) : sProp 𝕄)
          ∗ (dat0 V hV 0).owesAt () t.castSucc
          ∗ owns ((0 : Dev nD) : Thread nD τ) (spec0_0.stage ((cfg0 (adm0 V hV)).slots t 0)) fullShare (blockIn V hV 0 t)
          ∗ owns ((0 : Dev nD) : Thread nD τ) (spec0_1.stage ((cfg0 (adm0 V hV)).slots t 1)) fullShare (rowOut V hV 0 t)) := by
    simp only [before0_0]
    iintro ⟨⟨HS, HT⟩, HO, ⟨%d0, H0⟩, ⟨%d1, H1⟩⟩
    iapply (gatherRun (F := F) 0 (grid0.coords t) (spec0_0.stage ((cfg0 (adm0 V hV)).slots t 0)) _ (spec0_1.stage ((cfg0 (adm0 V hV)).slots t 1)) _
      (tblOf V 0) (hV.chk _) (blockIn V hV 0 t) _)
    isplitl [HT]; · iexact HT
    isplitl [H0]; · iexact H0
    isplitl [H1]; · iexists _; iexact H1
    iintro ⟨HT, H0, H1⟩
    isplitl [HS HT]
    · isplitl [HS]; · iexact HS
      iexact HT
    isplitl [HO]; · iexact HO
    isplitl [H0]; · iexact H0
    iexact H1
  exact triple_restated hrun rfl .rfl fun _ => .rfl

/-! ## The array written -/

/-- What the call leaves in its result: row `k` is the embedding table's row at word `k`. -/
def gathered (c : Dev nD) : Vec F S20x1x32 .f32 := fun x =>
  (V c (Proc.devRef .tc main_arg1) : Vec F S100000x32 .f32)
    (ValueIdx.ix2 ⟨(show BitVec 32 from tblOf V 0 (ValueIdx.ix1 (x 0))).toNat, hV _⟩ (x 2))

/-- The output window, its index map reading no table. -/
abbrev outWin0 : Pipeline.Window sig grid0 :=
  Pipeline.Window.ofSpec (Memref.whole main_v0) S1x1x32.size cc0_transform_1 reads0_1 true false 2 stage0_1 sem0_1
    hrank0 hreads0_1 hinb0_1 nbuf0_1 (Memref.isWhole_whole _) hwx0_1 hstage0_1

theorem covers0 : outWin0.Covers := by decide +kernel

/-- The row copied at point `t`, read at an element of the result it lands on. -/
theorem rowOut_apply (c : Dev nD) (t : Fin (cfg0 (adm0 V hV)).N) (y : S1x1x32.Idx) (z : S20x1x32.Idx)
    (hz0 : (z 0).val = ((grid0.coords t) 0).val) (hz2 : (z 2).val = (y 2).val) : rowOut V hV c t y = gathered V hV c z := by
  have hw : (word (tblOf V) (grid0.coords t)).toNat < 100000 := hV _
  have hc : ((grid0.coords t) 0).val < 20 := ((grid0.coords t) 0).isLt
  have hk : (BitVec.ofNat 32 ((grid0.coords t) 0).val).toNat = ((grid0.coords t) 0).val := by
    rw [BitVec.toNat_ofNat]; exact Nat.mod_eq_of_lt (by omega)
  have hword : word (tblOf V) (grid0.coords t) = (show BitVec 32 from tblOf V 0 (ValueIdx.ix1 (z 0))) :=
    congrArg (show S20.Idx → BitVec 32 from tblOf V 0) (funext fun a : Fin 1 => Fin.ext (by
      obtain rfl : a = 0 := Subsingleton.elim _ _
      show (BitVec.ofNat 32 ((grid0.coords t) 0).val).toNat + 1 * 0 = (z 0).val
      omega))
  have hb : ∀ (x : S8x32.Idx) (i : S100000x32.Idx),
      (∀ a, (i a : Nat) = cc0_transform_0 k0_off1_inb numel1_S1 (tblOf V) (grid0.coords t) a * S8x32.size a + (x a).val) →
      blockIn V hV c t x = (V c (Proc.devRef .tc main_arg1) : Vec F S100000x32 .f32) i := fun x i hi =>
    congrArg (V c (Proc.devRef .tc main_arg1) : Vec F S100000x32 .f32)
      (funext fun a => Fin.ext ((((cfg0 (adm0 V hV)).win 0).rect_emb_val t x a rfl).trans (hi a).symm))
  unfold rowOut k0_pay1 gathered
  dsimp only
  refine (shapeCast_addUnit_apply (n := 2) ![1, 32] _ _ y).trans ?_
  have hy1 : (y 1).val < 1 := (y 1).isLt
  refine (View.ld_unit_apply_of (S := S8x32) (blockIn V hV c t) _ _ _ _
    (ValueIdx.ix2 (⟨(word (tblOf V) (grid0.coords t)).toNat % 8, Nat.mod_lt _ (by decide)⟩ : Fin 8) (y 2)) (Fin.forall_fin_two.mpr ⟨?_, ?_⟩)).trans
    (hb _ _ (Fin.forall_fin_two.mpr ⟨?_, ?_⟩))
  · have e : k0_off2 (word (tblOf V) (grid0.coords t)) 0 = _ := congrFun (k0_off2_eq hw) 0
    show (word (tblOf V) (grid0.coords t)).toNat % 8 = k0_off2 (word (tblOf V) (grid0.coords t)) 0 + (y 1).val
    rw [e]; show _ % 8 = _ % 8 + _
    omega
  · have e : k0_off2 (word (tblOf V) (grid0.coords t)) 1 = 0 := congrFun (k0_off2_eq hw) 1
    show (y 2).val = k0_off2 (word (tblOf V) (grid0.coords t)) 1 + (y 2).val
    omega
  · have e : cc0_transform_0 k0_off1_inb numel1_S1 (tblOf V) (grid0.coords t) 0 = (word (tblOf V) (grid0.coords t)).toNat / 8 :=
      congrFun (transform_0_eq _ _ hw) 0
    have hn := congrArg BitVec.toNat hword
    refine hn.symm.trans ?_
    show (word (tblOf V) (grid0.coords t)).toNat = cc0_transform_0 k0_off1_inb numel1_S1 (tblOf V) (grid0.coords t) 0 * 8
      + (word (tblOf V) (grid0.coords t)).toNat % 8
    omega
  · have e : cc0_transform_0 k0_off1_inb numel1_S1 (tblOf V) (grid0.coords t) 1 = 0 := congrFun (transform_0_eq _ _ hw) 1
    show (z 2).val = cc0_transform_0 k0_off1_inb numel1_S1 (tblOf V) (grid0.coords t) 1 * 32 + (y 2).val
    omega

/-- The result's final contents. -/
theorem arrAt0_1 (c : Dev nD) : (dat0 V hV c).arrAt 1 (cfg0 (adm0 V hV)).N = gathered V hV c := by
  have hc : ∀ t : Fin (cfg0 (adm0 V hV)).N, ((grid0.coords t) 0).val < 20 := fun t => ((grid0.coords t) 0).isLt
  have hk : ∀ t : Fin (cfg0 (adm0 V hV)).N, (BitVec.ofNat 32 ((grid0.coords t) 0).val).toNat = ((grid0.coords t) 0).val := fun t => by
    rw [BitVec.toNat_ofNat]; exact Nat.mod_eq_of_lt (by have := hc t; omega)
  have main : ∀ (t : Fin (cfg0 (adm0 V hV)).N) (y : S1x1x32.Idx),
      rowOut V hV c t y = gathered V hV c ((((cfg0 (adm0 V hV)).win 1).blk t).view.emb y) := fun t y => by
    have hz : ∀ a : Fin 3, (((((cfg0 (adm0 V hV)).win 1).blk t).view.emb y : S20x1x32.Idx) a).val
        = cc0_transform_1 (grid0.coords t) a * S1x1x32.size a + (y a).val :=
      fun a => ((cfg0 (adm0 V hV)).win 1).rect_emb_val t y a rfl
    have hy0 : (y 0).val < 1 := (y 0).isLt
    have hk := hk t
    exact rowOut_apply V hV c t y _
      ((hz 0).trans (show (BitVec.ofNat 32 ((grid0.coords t) 0).val).toNat * 1 + (y 0).val = _ by omega))
      ((hz 2).trans (show 0 * 32 + (y 2).val = _ by omega))
  exact (dat0 V hV c).arrAt_eq_of_covers 1 _ (show outWin0.Covers from covers0) (fun t hf y => main t y)

end Cert.KernelIdeal.Hand

end
-- ==== Proof.Ideal.MvValues.lean ====
/-
  What one point of the second kernel computes, as functions of the arrays it is handed, and what its stores leave.
-/
module

public import proofs.«01_k».proof.Proof.Ideal.Gather
public import Idealize.ShloMosaic.Lib.ValueIdx

@[expose] public section

noncomputable section

namespace Cert.KernelIdeal.Hand

open Cert.KernelIdeal Cert.KernelIdeal.Gen
open Idealize.ShloMosaic Idealize.ShloMosaic.TcCoe

open Idealize.ShloMosaic.ValueIdx (ix1 ix2)

variable {F : FTy → Type} [FloatOps F]

/-- The point is the first of the grid, as the body tests it. -/
abbrev isFirst (i : grid1.Coords) : Prop :=
  Scalar.cmpi .ne (Scalar.extui (Scalar.cmpi .eq (BitVec.ofNat 32 (i 0).val) 0#32) : BitVec 32) 0#32 = 1#1

/-- The point is the last of the grid, as the body tests it. -/
abbrev isLast (i : grid1.Coords) : Prop :=
  Scalar.cmpi .ne (Scalar.extui (Scalar.cmpi .eq (BitVec.ofNat 32 (i 0).val) 24#32) : BitVec 32) 0#32 = 1#1

theorem isFirst_iff (i : grid1.Coords) : isFirst i ↔ (i 0).val = 0 :=
  (show ∀ n : Fin 25, (Scalar.cmpi .ne (Scalar.extui (Scalar.cmpi .eq (BitVec.ofNat 32 n.val) 0#32) : BitVec 32) 0#32 = 1#1) ↔ n.val = 0
    by decide) (i 0)

theorem isLast_iff (i : grid1.Coords) : isLast i ↔ (i 0).val = 24 :=
  (show ∀ n : Fin 25, (Scalar.cmpi .ne (Scalar.extui (Scalar.cmpi .eq (BitVec.ofNat 32 n.val) 24#32) : BitVec 32) 0#32 = 1#1) ↔ n.val = 24
    by decide) (i 0)

theorem k1_off1_eq (i : grid1.Coords) : k1_off1 i = ![(i 0).val, 0] :=
  (show ∀ n : Fin 25, (![(Scalar.indexCast (BitVec.ofNat 32 n.val) : Index).toNat, 0] : Fin 2 → ℕ) = ![n.val, 0] by decide) (i 0)

theorem k1_off2_eq (i : grid1.Coords) : k1_off2 i = ![(i 0).val, 2000] :=
  (show ∀ n : Fin 25, (![(Scalar.indexCast (BitVec.ofNat 32 n.val) : Index).toNat, (2000#32 : Index).toNat] : Fin 2 → ℕ) = ![n.val, 2000]
    by decide) (i 0)

/-! ## The values of a point -/

/-- Row `k` of the gathered rows. -/
abbrev rowOf (x : Vec F S20x32 .f32) (k : ℕ) (h : ∀ a, (![k, 0] : Fin 2 → ℕ) a + S1x32.size a ≤ S20x32.size a) : Vec F S1x32 .f32 :=
  View.ld x (Rect.unit (s := S20x32) ![k, 0] S1x32.size h)

/-- The gathered rows laid side by side, as the first point stores them. -/
def embRow (x : Vec F S20x32 .f32) : Vec F S1x640 .f32 :=
  k1_pay17 (k1_pay16
    (k1_pay3 (rowOf x 0 inb_S20x32_S1x32_0_0)) (k1_pay4 (rowOf x 1 inb_S20x32_S1x32_1_0)) (k1_pay5 (rowOf x 2 inb_S20x32_S1x32_2_0))
    (k1_pay6 (rowOf x 3 inb_S20x32_S1x32_3_0)) (k1_pay7 (rowOf x 4 inb_S20x32_S1x32_4_0)) (k1_pay8 (rowOf x 5 inb_S20x32_S1x32_5_0))
    (k1_pay9 (rowOf x 6 inb_S20x32_S1x32_6_0)) (k1_pay10 (rowOf x 7 inb_S20x32_S1x32_7_0)) (k1_pay11 (rowOf x 8 inb_S20x32_S1x32_8_0))
    (k1_pay12 (rowOf x 9 inb_S20x32_S1x32_9_0)) (k1_pay13 (rowOf x 10 inb_S20x32_S1x32_10_0)) (k1_pay14 (rowOf x 11 inb_S20x32_S1x32_11_0))
    (k1_pay15 (rowOf x 12 inb_S20x32_S1x32_12_0)) (rowOf x 13 inb_S20x32_S1x32_13_0) (rowOf x 14 inb_S20x32_S1x32_14_0)
    (rowOf x 15 inb_S20x32_S1x32_15_0) (rowOf x 16 inb_S20x32_S1x32_16_0) (rowOf x 17 inb_S20x32_S1x32_17_0)
    (rowOf x 18 inb_S20x32_S1x32_18_0) (rowOf x 19 inb_S20x32_S1x32_19_0))

/-- The first half of the bias block. -/
abbrev biasLo (b : Vec F S1x1x4000 .f32) : Vec F S1x1x2000 .f32 :=
  View.ld b (Rect.unit (s := S1x1x4000) ![0, 0, 0] S1x1x2000.size inb_S1x1x4000_S1x1x2000_0_0_0)
/-- The second half of the bias block. -/
abbrev biasHi (b : Vec F S1x1x4000 .f32) : Vec F S1x1x2000 .f32 :=
  View.ld b (Rect.unit (s := S1x1x4000) ![0, 0, 2000] S1x1x2000.size inb_S1x1x4000_S1x1x2000_0_0_2000)

/-- The logits of the point's first weight block. -/
def logA (e : Vec F S1x640 .f32) (w1 : Vec F S2000x640 .f32) (b : Vec F S1x1x4000 .f32) : Vec F S1x2000 .f32 := k1_pay18 e w1 (biasLo b)
/-- The logits of the point's second weight block. -/
def logB (e : Vec F S1x640 .f32) (w2 : Vec F S2000x640 .f32) (b : Vec F S1x1x4000 .f32) : Vec F S1x2000 .f32 := k1_pay19 e w2 (biasHi b)

/-- The running maximum after the point. -/
def newMax (e : Vec F S1x640 .f32) (w1 w2 : Vec F S2000x640 .f32) (b : Vec F S1x1x4000 .f32) (m : F .f32) : F .f32 :=
  k1_pay20 e w1 e w2 (biasLo b) (biasHi b) m

/-- The running sum after the point. -/
def newSum (e : Vec F S1x640 .f32) (w1 w2 : Vec F S2000x640 .f32) (b : Vec F S1x1x4000 .f32) (m s : F .f32) : F .f32 :=
  k1_pay1 (logA e w1 b) (logB e w2 b) s (newMax e w1 w2 b m) (k1_pay21 e w1 e w2 (biasLo b) (biasHi b) m)

/-- What the last point makes of the rows of logits `o`. -/
def closeRows (e : Vec F S1x640 .f32) (w1 w2 : Vec F S2000x640 .f32) (b : Vec F S1x1x4000 .f32) (m s : F .f32) (o : Vec F S25x4000 .f32) :
    Vec F S25x4000 .f32 :=
  k1_pay2 (logA e w1 b) (logB e w2 b) s (newMax e w1 w2 b m) (k1_pay21 e w1 e w2 (biasLo b) (biasHi b) m) o

/-- The two words of the running state. -/
def pairOf (m s : F .f32) : Vec F S2 .f32 := fun j => if (j 0).val = 0 then m else s

/-- `o` with row `i` replaced by the logits of the point's two blocks. -/
def putRow (i : ℕ) (a b : Vec F S1x2000 .f32) (o : Vec F S25x4000 .f32) : Vec F S25x4000 .f32 := fun y =>
  if (y 0).val = i then
    if h : (y 1).val < 2000 then a (ix2 0 ⟨(y 1).val, h⟩) else b (ix2 0 ⟨(y 1).val - 2000, by have h1 : (y 1).val < 4000 := (y 1).isLt; omega⟩)
  else o y

/-! ## What the stores leave and what the loads read -/

/-- A load of a whole view reads its contents. -/
theorem readAt_whole {sp : Space} {S : Shape} {e : EltTy} (v : View sig .tc sp S e) (f : BufTy.Contents (Elt F) v.ref.ty)
    {off : Fin S.rank → ℕ} (h : off = fun _ => 0) (inb : ∀ a, off a + S.size a ≤ S.size a) :
    View.readAt (Elt F) v (Rect.unit off S.size inb).toLoadRect f = v.read (Elt F) f :=
  View.ld_unit_zero h inb (v.read (Elt F) f)

/-- The running state's two words, read one by one. -/
theorem readAt_pair {v : View sig .tc .smem S2 .f32} {f : BufTy.Contents (Elt F) v.ref.ty} {m s : F .f32} (h : v.read (Elt F) f = pairOf m s)
    (h0 : 0 < S1.numel) :
    View.readAt (Elt F) v (Rect.unit (s := S2) ![0] ![1] inb_S2_S1_0).toLoadRect f (Shape.Idx.first h0) = m
      ∧ View.readAt (Elt F) v (Rect.unit (s := S2) ![1] ![1] inb_S2_S1_1).toLoadRect f (Shape.Idx.first h0) = s :=
  ⟨(congrFun h _).trans (if_pos rfl), (congrFun h _).trans (if_neg Nat.one_ne_zero)⟩

/-- After stores to both words the running state holds the two stored values. -/
theorem read_pair (v : View sig .tc .smem S2 .f32) (f : BufTy.Contents (Elt F) v.ref.ty) (m s : F .f32) (L : List (View.Piece (Elt F) S2 .f32)) :
    v.read (Elt F) (v.writes (Elt F) f (⟨Rect.unit (s := S2) ![1] ![1] inb_S2_S1_1, fun _ => s⟩ :: ⟨Rect.unit (s := S2) ![0] ![1] inb_S2_S1_0, fun _ => m⟩ :: L))
      = pairOf m s := by
  funext y
  have hy : (y 0).val < 2 := (y 0).isLt
  by_cases h : (y 0).val = 0
  · refine (View.read_writes_cons_unit_of_not_mem v f inb_S2_S1_1 _ _ y rfl (0 : Fin 1) ?_).trans
      ((View.read_writes_cons_unit_of_mem v f inb_S2_S1_0 _ _ y (ix1 (0 : Fin 1)) rfl (Fin.forall_fin_one.mpr h)).trans (if_pos h).symm)
    exact .inl (by show (y 0).val < 1; omega)
  · refine (View.read_writes_cons_unit_of_mem v f inb_S2_S1_1 _ _ y (ix1 (0 : Fin 1)) rfl (Fin.forall_fin_one.mpr ?_)).trans (if_neg h).symm
    show (y 0).val = 1 + 0
    omega

/-- After the point's two row stores the array holds the row of logits over what it held. -/
theorem read_row (v : View sig .tc .vmem S25x4000 .f32) (f : BufTy.Contents (Elt F) v.ref.ty) (i : grid1.Coords) (a b : Vec F S1x2000 .f32) :
    v.read (Elt F) (v.writes (Elt F) f [⟨Rect.unit (s := S25x4000) (k1_off2 i) ![1, 2000] (k1_off2_inb i), b⟩,
        ⟨Rect.unit (s := S25x4000) (k1_off1 i) ![1, 2000] (k1_off1_inb i), a⟩])
      = putRow (i 0).val a b (v.read (Elt F) f) := by
  funext y
  have hy : (y 1).val < 4000 := (y 1).isLt
  by_cases h : (y 0).val = (i 0).val
  · by_cases h1 : (y 1).val < 2000
    · refine (View.read_writes_cons_unit_of_not_mem v f (k1_off2_inb i) _ _ y (k1_off2_eq i) (1 : Fin 2) (.inl h1)).trans
        ((View.read_writes_cons_unit_of_mem v f (k1_off1_inb i) _ _ y (ix2 (0 : Fin 1) (⟨(y 1).val, h1⟩ : Fin 2000)) (k1_off1_eq i)
          (Fin.forall_fin_two.mpr ⟨h, (Nat.zero_add _).symm⟩)).trans ?_)
      unfold putRow; rw [if_pos h, dif_pos h1]
    · refine (View.read_writes_cons_unit_of_mem v f (k1_off2_inb i) _ _ y (ix2 (0 : Fin 1) (⟨(y 1).val - 2000, by omega⟩ : Fin 2000)) (k1_off2_eq i)
          (Fin.forall_fin_two.mpr ⟨h, ?_⟩)).trans ?_
      · show (y 1).val = 2000 + ((y 1).val - 2000); omega
      · unfold putRow; rw [if_pos h, dif_neg h1]
  · have hne : (y 0).val < (i 0).val ∨ (i 0).val + 1 ≤ (y 0).val := by omega
    refine (View.read_writes_cons_unit_of_not_mem v f (k1_off2_inb i) _ _ y (k1_off2_eq i) (0 : Fin 2) hne).trans
      ((View.read_writes_cons_unit_of_not_mem v f (k1_off1_inb i) _ _ y (k1_off1_eq i) (0 : Fin 2) hne).trans ?_)
    exact (if_neg h).symm

end Cert.KernelIdeal.Hand

end
-- ==== Proof.Ideal.Matvec.lean ====
/-
  The second kernel's body at one grid point: the first point, a point between, and the last point.
-/
module

public import proofs.«01_k».proof.Proof.Ideal.MvValues

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid1.Coords)
    (arg1 : Memref sig .tc .vmem S20x32 .f32) (harg1 : arg1.IsWhole) (arg2 : Memref sig .tc .vmem S2000x640 .f32) (harg2 : arg2.IsWhole)
    (arg3 : Memref sig .tc .vmem S2000x640 .f32) (harg3 : arg3.IsWhole) (arg4 : Memref sig .tc .vmem S1x1x4000 .f32) (harg4 : arg4.IsWhole)
    (arg5 : Memref sig .tc .vmem S25x4000 .f32) (harg5 : arg5.IsWhole) (arg6 : Memref sig .tc .vmem S1x640 .f32) (harg6 : arg6.IsWhole)
    (arg7 : Memref sig .tc .smem S2 .f32) (harg7 : arg7.IsWhole)
    (x : Vec F S20x32 .f32) (w1 w2 : Vec F S2000x640 .f32) (b : Vec F S1x1x4000 .f32) (o : Vec F S25x4000 .f32)

/-- What the body holds: its four inputs, the output array at `o`, the row of features at `e` and the running state at `m`, `s`. -/
abbrev mvHeld (o : Vec F S25x4000 .f32) (e : Vec F S1x640 .f32) (m s : F .f32) : sProp 𝕄 :=
  iprop(owns (c : Thread nD τ) arg1 fullShare x ∗ owns (c : Thread nD τ) arg2 fullShare w1 ∗ owns (c : Thread nD τ) arg3 fullShare w2
    ∗ owns (c : Thread nD τ) arg4 fullShare b ∗ owns (c : Thread nD τ) arg5 fullShare o ∗ owns (c : Thread nD τ) arg6 fullShare e
    ∗ owns (c : Thread nD τ) arg7 fullShare (pairOf m s))

/-- A point neither first nor last writes its row and moves the running state on. -/
theorem mvMid (h0 : ¬isFirst i) (h24 : ¬isLast i) (e : Vec F S1x640 .f32) (m s : F .f32) (K : PUnit → sProp 𝕄) :
    iprop(mvHeld c arg1 arg2 arg3 arg4 arg5 arg6 arg7 x w1 w2 b o e m s ∗ (mvHeld c arg1 arg2 arg3 arg4 arg5 arg6 arg7 x w1 w2 b (putRow (i 0).val (logA e w1 b) (logB e w2 b) o) e (newMax e w1 w2 b m) (newSum e w1 w2 b m s) -∗ K ⟨⟩))
      ⊢ wp frame (wpE (defs₀ (F := F)) Variants.none c none) Set.univ
          (cc1__mv_body i arg1 harg1 arg2 harg2 arg3 harg3 arg4 harg4 arg5 harg5 arg6 harg6 arg7 harg7) K := by
  simp only [cc1__mv_body_eq_skeleton]; unfold cc1__mv_body_skel
  simp only [k1_part2_eq_skeleton]; unfold k1_part2_skel
  simp only [dif_neg h0, dif_neg h24]
  simp only [smemLoad, smemLoadElt, Prog.lift, Prog.bind_op, Prog.bind_ret, Prog.pure_eq_ret, Prog.bind_assoc]
  unfold mvHeld owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  have r2 := (readAt_whole arg2.view f2 (by decide) inb_S2000x640_S2000x640_0_0).trans h2
  have r3 := (readAt_whole arg3.view f3 (by decide) inb_S2000x640_S2000x640_0_0).trans h3
  have r6 := (readAt_whole arg6.view f6 (by decide) inb_S1x640_S1x640_0_0).trans h6
  obtain ⟨r70, r71⟩ := readAt_pair h7 (show 0 < 1 by decide)
  iapply Hk
  isplitl [H1]; · iexists f1; isplitr; swap; iexact H1; ipureintro; exact h1
  isplitl [H2]; · iexists f2; isplitr; swap; iexact H2; ipureintro; exact h2
  isplitl [H3]; · iexists f3; isplitr; swap; iexact H3; ipureintro; exact h3
  isplitl [H4]; · iexists f4; isplitr; swap; iexact H4; ipureintro; exact h4
  isplitl [H5]
  · iexists _; isplitr; swap; · iexact H5
    ipureintro
    refine (read_row arg5.view f5 i _ _).trans ?_
    rw [r2, r3, r6, h5, ← h4]; rfl
  isplitl [H6]
  · iexists _; isplitr; swap; · iexact H6
    ipureintro
    exact h6
  iexists _; isplitr; swap; · iexact H7
  ipureintro
  refine (read_pair arg7.view f7 _ _ _).trans ?_
  rw [r2, r3, r6, r70, r71, ← h4]; rfl
/-- The last point writes its row, moves the running state on and takes it off every logit. -/
theorem mvLast (h0 : ¬isFirst i) (h24 : isLast i) (e : Vec F S1x640 .f32) (m s : F .f32) (K : PUnit → sProp 𝕄) :
    iprop(mvHeld c arg1 arg2 arg3 arg4 arg5 arg6 arg7 x w1 w2 b o e m s ∗ (mvHeld c arg1 arg2 arg3 arg4 arg5 arg6 arg7 x w1 w2 b (closeRows e w1 w2 b m s (putRow (i 0).val (logA e w1 b) (logB e w2 b) o)) e (newMax e w1 w2 b m) (newSum e w1 w2 b m s) -∗ K ⟨⟩))
      ⊢ wp frame (wpE (defs₀ (F := F)) Variants.none c none) Set.univ
          (cc1__mv_body i arg1 harg1 arg2 harg2 arg3 harg3 arg4 harg4 arg5 harg5 arg6 harg6 arg7 harg7) K := by
  simp only [cc1__mv_body_eq_skeleton]; unfold cc1__mv_body_skel
  simp only [k1_part2_eq_skeleton]; unfold k1_part2_skel
  simp only [dif_neg h0, dif_pos h24]
  simp only [smemLoad, smemLoadElt, Prog.lift, Prog.bind_op, Prog.bind_ret, Prog.pure_eq_ret, Prog.bind_assoc]
  unfold mvHeld owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  have r2 := (readAt_whole arg2.view f2 (by decide) inb_S2000x640_S2000x640_0_0).trans h2
  have r3 := (readAt_whole arg3.view f3 (by decide) inb_S2000x640_S2000x640_0_0).trans h3
  have r6 := (readAt_whole arg6.view f6 (by decide) inb_S1x640_S1x640_0_0).trans h6
  obtain ⟨r70, r71⟩ := readAt_pair h7 (show 0 < 1 by decide)
  iapply Hk
  isplitl [H1]; · iexists f1; isplitr; swap; iexact H1; ipureintro; exact h1
  isplitl [H2]; · iexists f2; isplitr; swap; iexact H2; ipureintro; exact h2
  isplitl [H3]; · iexists f3; isplitr; swap; iexact H3; ipureintro; exact h3
  isplitl [H4]; · iexists f4; isplitr; swap; iexact H4; ipureintro; exact h4
  isplitl [H5]
  · iexists _; isplitr; swap; · iexact H5
    ipureintro
    refine (Cert.Shared.read_writes_whole (Elt F) arg5.view _ (by decide) _ _ _).trans ?_
    unfold closeRows
    have r5 : mvLast.sl.v55 c i arg2 arg3 arg4 arg5 arg6 f2 f3 f4 f5 f6 = putRow (i 0).val (logA e w1 b) (logB e w2 b) o := by
      refine (readAt_whole arg5.view _ (by decide) inb_S25x4000_S25x4000_0_0).trans ((read_row arg5.view f5 i _ _).trans ?_)
      rw [r2, r3, r6, h5, ← h4]; rfl
    rw [r5, r2, r3, r6, r70, r71, ← h4]; rfl
  isplitl [H6]
  · iexists _; isplitr; swap; · iexact H6
    ipureintro
    exact h6
  iexists _; isplitr; swap; · iexact H7
  ipureintro
  refine (read_pair arg7.view f7 _ _ _).trans ?_
  rw [r2, r3, r6, r70, r71, ← h4]; rfl
/-- The first point lays the gathered rows side by side, starts the running state, writes its row and moves the state on. -/
theorem mvFirst (h0 : isFirst i) (h24 : ¬isLast i) (K : PUnit → sProp 𝕄) :
    iprop(owns (c : Thread nD τ) arg1 fullShare x ∗ owns (c : Thread nD τ) arg2 fullShare w1 ∗ owns (c : Thread nD τ) arg3 fullShare w2
        ∗ owns (c : Thread nD τ) arg4 fullShare b ∗ owns (c : Thread nD τ) arg5 fullShare o ∗ (∃ d, owns (c : Thread nD τ) arg6 fullShare d)
        ∗ (∃ d, owns (c : Thread nD τ) arg7 fullShare d) ∗ (mvHeld c arg1 arg2 arg3 arg4 arg5 arg6 arg7 x w1 w2 b (putRow (i 0).val (logA (embRow x) w1 b) (logB (embRow x) w2 b) o) (embRow x)
        (newMax (embRow x) w1 w2 b (Scalar.ofBits .f32 0xFF800000#32))
        (newSum (embRow x) w1 w2 b (Scalar.ofBits .f32 0xFF800000#32) (Scalar.ofBits .f32 0x00000000#32)) -∗ K ⟨⟩))
      ⊢ wp frame (wpE (defs₀ (F := F)) Variants.none c none) Set.univ
          (cc1__mv_body i arg1 harg1 arg2 harg2 arg3 harg3 arg4 harg4 arg5 harg5 arg6 harg6 arg7 harg7) K := by
  simp only [cc1__mv_body_eq_skeleton]; unfold cc1__mv_body_skel
  simp only [k1_part2_eq_skeleton]; unfold k1_part2_skel
  simp only [dif_pos h0, dif_neg h24, k1_part1_eq_skeleton]; unfold k1_part1_skel
  simp only [smemLoad, smemLoadElt, Prog.lift, Prog.bind_op, Prog.bind_ret, Prog.pure_eq_ret, Prog.bind_assoc]
  unfold mvHeld owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, Hk⟩
  sl_exec
  sl_step
  have r2 := (readAt_whole arg2.view f2 (by decide) inb_S2000x640_S2000x640_0_0).trans h2
  have r3 := (readAt_whole arg3.view f3 (by decide) inb_S2000x640_S2000x640_0_0).trans h3
  have r6 : mvFirst.sl.x c arg1 arg6 f1 = embRow x := by
    rw [← h1]; unfold mvFirst.sl.x mvFirst.sl.H6_1; rw [View.readCov_cons_toLoadRect]; rfl
  iapply Hk
  isplitl [H1]; · iexists f1; isplitr; swap; iexact H1; ipureintro; exact h1
  isplitl [H2]; · iexists f2; isplitr; swap; iexact H2; ipureintro; exact h2
  isplitl [H3]; · iexists f3; isplitr; swap; iexact H3; ipureintro; exact h3
  isplitl [H4]; · iexists f4; isplitr; swap; iexact H4; ipureintro; exact h4
  isplitl [H5]
  · iexists _; isplitr; swap; · iexact H5
    ipureintro
    refine (read_row arg5.view f5 i _ _).trans ?_
    rw [r2, r3, r6, h5, ← h4]; rfl
  isplitl [H6]
  · iexists _; isplitr; swap; · iexact H6
    ipureintro
    refine (Cert.Shared.read_writes_whole (Elt F) arg6.view _ (by decide) _ _ _).trans ?_
    rw [← h1]; rfl
  iexists _; isplitr; swap; · iexact H7
  ipureintro
  refine (read_pair arg7.view f7 _ _ _).trans ?_
  rw [r2, r3, r6, ← h4]; rfl

end Cert.KernelIdeal.Hand

end
-- ==== Proof.Ideal.Stage1.lean ====
/-
  The second kernel call, the matrix-vector product with its running maximum and sum: what its windows hold, that its body does what
  the proof data say, and what the array it writes holds at the end.
-/
module

public import proofs.«01_k».proof.Proof.Ideal.Matvec
public import proofs.«01_k».proof.Proof.Region
public import Idealize.ShloMosaic.Lib.Pipeline.ValueKit.Geometry
public import Idealize.ShloMosaic.Lib.Pipeline.ValueKit.Tiles
public import Idealize.ShloMosaic.Lib.Pipeline.DatRel
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Idealize.ShloMosaic.ValueIdx (ix1 ix2)

variable {F : FTy → Type} [FloatOps F]

local notation "𝕄" => MT nD τ sig Unit (Elt F) ℕ (UR sig nD τ) ℕ

variable (V : Dev nD → Valuation τ sig (Elt F)) (c : Dev nD)

/-! ## What the windows hold -/

/-- The gathered rows. -/
abbrev rows1 : Vec F S20x32 .f32 := V c (Proc.devRef .tc main_v1)
/-- The first weight block of point `t`. -/
def wA (t : Fin cfg1.N) : Vec F S2000x640 .f32 := ((cfg1.win 1).blk t).view.read (Elt F) (V c (Proc.devRef .tc main_arg2))
/-- The second weight block of point `t`. -/
def wB (t : Fin cfg1.N) : Vec F S2000x640 .f32 := ((cfg1.win 2).blk t).view.read (Elt F) (V c (Proc.devRef .tc main_arg2))
/-- The bias block of point `t`. -/
def bb (t : Fin cfg1.N) : Vec F S1x1x4000 .f32 := ((cfg1.win 3).blk t).view.read (Elt F) (V c (Proc.devRef .tc main_v2))

/-- The first half of row `t` of the logits. -/
abbrev lgA (t : Fin cfg1.N) : Vec F S1x2000 .f32 := logA (embRow (rows1 V c)) (wA V c t) (bb V c t)
/-- The second half of row `t` of the logits. -/
abbrev lgB (t : Fin cfg1.N) : Vec F S1x2000 .f32 := logB (embRow (rows1 V c)) (wB V c t) (bb V c t)

/-- The running maximum and sum before point `n`. -/
def stateAt : ℕ → F .f32 × F .f32
  | 0 => (Scalar.ofBits .f32 0xFF800000#32, Scalar.ofBits .f32 0x00000000#32)
  | n + 1 => if h : n < cfg1.N then
      (newMax (embRow (rows1 V c)) (wA V c ⟨n, h⟩) (wB V c ⟨n, h⟩) (bb V c ⟨n, h⟩) (stateAt n).1,
        newSum (embRow (rows1 V c)) (wA V c ⟨n, h⟩) (wB V c ⟨n, h⟩) (bb V c ⟨n, h⟩) (stateAt n).1 (stateAt n).2)
    else stateAt n

theorem stateAt_succ (t : Fin cfg1.N) : stateAt V c (t.val + 1)
    = (newMax (embRow (rows1 V c)) (wA V c t) (wB V c t) (bb V c t) (stateAt V c t.val).1,
        newSum (embRow (rows1 V c)) (wA V c t) (wB V c t) (bb V c t) (stateAt V c t.val).1 (stateAt V c t.val).2) := by
  rw [stateAt, dif_pos t.isLt]

/-- Row `n` of the output array as a grid point. -/
abbrev pt (y : S25x4000.Idx) : Fin cfg1.N := ⟨(y 0).val, lt_of_lt_of_eq (y 0).isLt N_1.symm⟩

/-- All the logits. -/
def logits : Vec F S25x4000 .f32 := fun y =>
  if h : (y 1).val < 2000 then lgA V c (pt y) (ix2 0 ⟨(y 1).val, h⟩)
  else lgB V c (pt y) (ix2 0 ⟨(y 1).val - 2000, by have h1 : (y 1).val < 4000 := (y 1).isLt; omega⟩)

/-- The last grid point. -/
abbrev tLast : Fin cfg1.N := ⟨24, lt_of_lt_of_eq (show 24 < 25 by decide) N_1.symm⟩

/-- The output array at the end: what the last point makes of the logits. -/
def final : Vec F S25x4000 .f32 :=
  closeRows (embRow (rows1 V c)) (wA V c tLast) (wB V c tLast) (bb V c tLast) (stateAt V c 24).1 (stateAt V c 24).2 (logits V c)

/-- The array holds the logits in the rows up to `n`. -/
def RowsUpTo (n : ℕ) (X : Vec F S25x4000 .f32) : Prop := ∀ y : S25x4000.Idx, (y 0).val ≤ n → X y = logits V c y

/-- A point's row store brings the rows held up to its own. -/
theorem rowsUpTo_put (t : Fin cfg1.N) (o : Vec F S25x4000 .f32) (h : ∀ y : S25x4000.Idx, (y 0).val < t.val → o y = logits V c y) :
    RowsUpTo V c t.val (putRow t.val (lgA V c t) (lgB V c t) o) := fun y hy => by
  by_cases e : (y 0).val = t.val
  · have ht : pt y = t := Fin.ext e
    unfold putRow logits
    rw [if_pos e, ht]
  · unfold putRow
    rw [if_neg e]
    exact h y (by omega)

/-- All rows held are the logits. -/
theorem eq_of_rowsUpTo (X : Vec F S25x4000 .f32) (h : RowsUpTo V c 24 X) : X = logits V c :=
  funext fun y => h y (Nat.le_of_lt_succ (show (y 0).val < 25 from (y 0).isLt))

/-- What the output window may hold after point `t`: the rows so far, and after the last point the final array. -/
def outRel (t : Fin cfg1.N) (X : Vec F S25x4000 .f32) : Prop := if t.val = 24 then X = final V c else RowsUpTo V c t.val X

theorem outRel_put (t : Fin cfg1.N) (o : Vec F S25x4000 .f32) (h : ∀ y : S25x4000.Idx, (y 0).val < t.val → o y = logits V c y) (h24 : t.val ≠ 24) :
    outRel V c t (putRow t.val (lgA V c t) (lgB V c t) o) := by
  unfold outRel
  rw [if_neg h24]
  exact rowsUpTo_put V c t o h

theorem outRel_close (t : Fin cfg1.N) (o : Vec F S25x4000 .f32) (h : ∀ y : S25x4000.Idx, (y 0).val < t.val → o y = logits V c y) (h24 : t.val = 24) :
    outRel V c t (closeRows (embRow (rows1 V c)) (wA V c t) (wB V c t) (bb V c t) (stateAt V c t.val).1 (stateAt V c t.val).2
      (putRow t.val (lgA V c t) (lgB V c t) o)) := by
  obtain rfl : t = tLast := Fin.ext h24
  unfold outRel
  rw [if_pos rfl, eq_of_rowsUpTo V c _ (rowsUpTo_put V c tLast o h)]
  rfl

/-! ## The proof data -/

/-- The first call's staging buffers, which the second does not touch. -/
abbrev stg0 : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

abbrev featM : Memref sig .tc .vmem S1x640 .f32 := Memref.whole cc1_scratch0
abbrev stM : Memref sig .tc .smem S2 .f32 := Memref.whole cc1_scratch1

/-- The two scratch buffers before point `n`: anything before the first, then the features and the running state. -/
def scratchAt (n : ℕ) : sProp 𝕄 :=
  if n = 0 then iprop((∃ d, owns (c : Thread nD τ) featM fullShare d) ∗ (∃ d, owns (c : Thread nD τ) stM fullShare d))
  else iprop(owns (c : Thread nD τ) featM fullShare (embRow (rows1 V c))
    ∗ owns (c : Thread nD τ) stM fullShare (pairOf (stateAt V c n).1 (stateAt V c n).2))

/-- The call's proof data: the arrays at the valuation, the input windows left as fetched; the invariant is the scratch buffers and the
    first call's staging buffers. The output window's entry is not used: it is held to `outRel`. -/
def dat1 : Dat τ (Elt F) Unit ℕ (UR sig nD τ) ℕ cfg1 c where
  A w := V c (Proc.devRef .tc (Pipeline.arrRef spec1 w))
  after w t := match w with
    | ⟨0, _⟩ => rows1 V c
    | ⟨1, _⟩ => wA V c t
    | ⟨2, _⟩ => wB V c t
    | ⟨3, _⟩ => bb V c t
    | ⟨4, _⟩ => final V c
  Φ t := iprop(stg0 c ∗ scratchAt V c t.val)
  q w := Pipeline.shareOf spec1 w
  owed _ := 0

/-- The output window is the one held to a relation. -/
def held1 : Fin cfg1.W → Bool := fun w => decide (w.val = 4)

/-- The relation it is held to. -/
def rel1 (w : Fin cfg1.W) (t : Fin cfg1.N) (X : (cfg1.win w).block.Idx → Elt F (cfg1.win w).elt) : Prop :=
  match w, X with
  | ⟨4, _⟩, X => outRel V c t X
  | _, _ => True

theorem blk0_eq (t : Fin cfg1.N) : ((cfg1.win 0).blk t).view.read (Elt F) (V c (Proc.devRef .tc main_v1)) = rows1 V c := by
  have main : ∀ y : S20x32.Idx, (((cfg1.win 0).blk t).view.emb y : S20x32.Idx) = y := fun y => by
    have hz : ∀ a : Fin 2, ((((cfg1.win 0).blk t).view.emb y : S20x32.Idx) a).val = cc1_transform_0 (grid1.coords t) a * S20x32.size a + (y a).val :=
      fun a => (cfg1.win 0).rect_emb_val t y a rfl
    funext a
    refine Fin.ext ((hz a).trans ?_)
    have : cc1_transform_0 (grid1.coords t) a = 0 := (Fin.forall_fin_two (p := fun a => cc1_transform_0 (grid1.coords t) a = 0)).mpr ⟨rfl, rfl⟩ a
    rw [this]; omega
  funext y
  exact congrArg (V c (Proc.devRef .tc main_v1)) (main y)

theorem before1_0 (t : Fin cfg1.N) (d) : (dat1 V c).before 0 t d = rows1 V c :=
  ((dat1 V c).before_in_eq_fetched 0 rfl (fun _ => rfl) (fun _ _ _ => rfl) (fun t => (blk0_eq V c t).symm) t d).trans (blk0_eq V c t)
theorem before1_1 (t : Fin cfg1.N) (d) : (dat1 V c).before 1 t d = wA V c t :=
  (dat1 V c).before_in_eq_fetched 1 rfl (fun _ => rfl) (fun _ _ _ => rfl) (fun _ => rfl) t d
theorem before1_2 (t : Fin cfg1.N) (d) : (dat1 V c).before 2 t d = wB V c t :=
  (dat1 V c).before_in_eq_fetched 2 rfl (fun _ => rfl) (fun _ _ _ => rfl) (fun _ => rfl) t d
theorem before1_3 (t : Fin cfg1.N) (d) : (dat1 V c).before 3 t d = bb V c t :=
  (dat1 V c).before_in_eq_fetched 3 rfl (fun _ => rfl) (fun _ _ _ => rfl) (fun _ => rfl) t d

theorem coords1_val (t : Fin cfg1.N) : ((grid1.coords t) 0).val = t.val :=
  (show ∀ t : Fin grid1.N, ((grid1.coords t) 0).val = t.val by decide +kernel) t

/-- What the output window may hold when the body runs at `t`: the logits in the rows before. -/
theorem finds1_4 (t : Fin cfg1.N) (X : Vec F S25x4000 .f32) (h : ((dat1 V c).toRRel held1 (rel1 V c)).Finds 4 t X) :
    ∀ y : S25x4000.Idx, (y 0).val < t.val → X y = logits V c y := fun y hy => by
  have ht : t.val ≠ 0 := by omega
  have hN : t.val < 25 := lt_of_lt_of_eq t.isLt N_1
  rcases (RDat.finds_of_pos _ ((cfg1.win 4).fetch_out rfl t) ht X).mp h with hf | hl
  · have := (flush1_4 _).mp hf
    have : (t.val - 1) % 25 = 24 := this
    omega
  · have := (dat1 V c).toRRel_leaves (fgt := held1) (w := 4) rfl hl
    have hr : outRel V c ⟨t.val - 1, _⟩ X := this
    unfold outRel at hr
    rw [if_neg (by show t.val - 1 ≠ 24; omega)] at hr
    exact hr y (by show (y 0).val ≤ t.val - 1; omega)

/-! ## The body -/

theorem defs₀_row1 (t : Fin cfg1.N) :
    (defs₀ .tc cfg1.body (cfg1.bodyArgs t (cfg1.slots t)) : Prog (TpuEff nD τ sig (Elt F) Λ₀ .tc) _) = bodyAt1 t := by
  unfold defs₀
  rw [Defs.onTc_tc]

/-- The windows at point `t` as the body finds them. -/
abbrev winsIn (t : Fin cfg1.N) : sProp 𝕄 :=
  iprop((∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ Y, ⌜((dat1 V c).toRRel held1 (rel1 V c)).Finds 4 t Y⌝ ∗ owns (c : Thread nD τ) (st1_4 t) fullShare Y))

/-- The windows at point `t` as the body leaves them. -/
abbrev winsOut (t : Fin cfg1.N) : sProp 𝕄 :=
  iprop(owns (c : Thread nD τ) (st1_0 t) fullShare (rows1 V c)
    ∗ owns (c : Thread nD τ) (st1_1 t) fullShare (wA V c t)
    ∗ owns (c : Thread nD τ) (st1_2 t) fullShare (wB V c t)
    ∗ owns (c : Thread nD τ) (st1_3 t) fullShare (bb V c t)
    ∗ (∃ X, ⌜outRel V c t X⌝ ∗ owns (c : Thread nD τ) (st1_4 t) fullShare X))

/-- What any of the three runs leaves is what the windows and the scratch are to hold after the point. -/
theorem mv_leaves (t : Fin cfg1.N) (X : Vec F S25x4000 .f32) (hX : outRel V c t X) (m s : F .f32) (hs : stateAt V c (t.val + 1) = (m, s)) :
    (mvHeld c (st1_0 t) (st1_1 t) (st1_2 t) (st1_3 t) (st1_4 t) featM stM (rows1 V c) (wA V c t) (wB V c t) (bb V c t) X
        (embRow (rows1 V c)) m s : sProp 𝕄)
      ⊢ iprop(scratchAt V c (t.val + 1) ∗ winsOut V c t) := by
  unfold scratchAt mvHeld
  rw [if_neg (Nat.succ_ne_zero _), hs]
  iintro ⟨H0, H1, H2, H3, H4, H5, H6⟩
  isplitl [H5 H6]
  · isplitl [H5]; · iexact H5
    iexact H6
  isplitl [H0]; · iexact H0
  isplitl [H1]; · iexact H1
  isplitl [H2]; · iexact H2
  isplitl [H3]; · iexact H3
  iexists X
  isplitr; · ipureintro; exact hX
  iexact H4

/-- The body at any point: from the scratch and the windows before the point to those after it. -/
theorem mv_run (t : Fin cfg1.N) (K : PUnit → sProp 𝕄) :
    iprop((scratchAt V c t.val ∗ winsIn V c t) ∗ ((scratchAt V c (t.val + 1) ∗ winsOut V c t) -∗ K ⟨⟩))
      ⊢ wp frame (wpE (defs₀ (F := F)) Variants.none c none) Set.univ (bodyAt1 t) K := by
  have hN : t.val < 25 := lt_of_lt_of_eq t.isLt N_1
  have hi := coords1_val t
  simp only [winsIn, before1_0, before1_1, before1_2, before1_3]
  by_cases h0 : t.val = 0
  · have hf : isFirst (grid1.coords t) := (isFirst_iff _).mpr (hi.trans h0)
    have hl : ¬isLast (grid1.coords t) := fun h => by have := (isLast_iff _).mp h; omega
    unfold scratchAt
    rw [if_pos h0]
    iintro ⟨⟨⟨H5, H6⟩, ⟨%d0, H0⟩, ⟨%d1, H1⟩, ⟨%d2, H2⟩, ⟨%d3, H3⟩, ⟨%Y, %hY, H4⟩⟩, Hk⟩
    iapply (mvFirst c (grid1.coords t) (st1_0 t) _ (st1_1 t) _ (st1_2 t) _ (st1_3 t) _ (st1_4 t) _ featM _ stM _
      (rows1 V c) (wA V c t) (wB V c t) (bb V c t) Y hf hl K)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro H
    iapply Hk
    iapply (mv_leaves V c t _ (outRel_put V c t Y (finds1_4 V c t Y hY) (by omega)) _ _ ((stateAt_succ V c t).trans (by rw [h0])))
    rw [hi]
    iexact H
  have hf : ¬isFirst (grid1.coords t) := fun h => h0 (hi.symm.trans ((isFirst_iff _).mp h))
  unfold scratchAt
  rw [if_neg h0]
  iintro ⟨⟨⟨H5, H6⟩, ⟨%d0, H0⟩, ⟨%d1, H1⟩, ⟨%d2, H2⟩, ⟨%d3, H3⟩, ⟨%Y, %hY, H4⟩⟩, Hk⟩
  ihave Hin : (mvHeld c (st1_0 t) (st1_1 t) (st1_2 t) (st1_3 t) (st1_4 t) featM stM (rows1 V c) (wA V c t) (wB V c t) (bb V c t) Y
      (embRow (rows1 V c)) (stateAt V c t.val).1 (stateAt V c t.val).2) $$ [H0 H1 H2 H3 H4 H5 H6]
  · unfold mvHeld
    isplitl [H0]; · iexact H0
    isplitl [H1]; · iexact H1
    isplitl [H2]; · iexact H2
    isplitl [H3]; · iexact H3
    isplitl [H4]; · iexact H4
    isplitl [H5]; · iexact H5
    iexact H6
  by_cases h24 : t.val = 24
  · iapply (mvLast c (grid1.coords t) (st1_0 t) _ (st1_1 t) _ (st1_2 t) _ (st1_3 t) _ (st1_4 t) _ featM _ stM _
      (rows1 V c) (wA V c t) (wB V c t) (bb V c t) Y hf ((isLast_iff _).mpr (hi.trans h24)) _ _ _ K)
    isplitl [Hin]; · iexact Hin
    iintro H
    iapply Hk
    iapply (mv_leaves V c t _ (outRel_close V c t Y (finds1_4 V c t Y hY) h24) _ _ (stateAt_succ V c t))
    rw [hi]
    iexact H
  · iapply (mvMid c (grid1.coords t) (st1_0 t) _ (st1_1 t) _ (st1_2 t) _ (st1_3 t) _ (st1_4 t) _ featM _ stM _
      (rows1 V c) (wA V c t) (wB V c t) (bb V c t) Y hf (fun h => h24 (hi.symm.trans ((isLast_iff _).mp h))) _ _ _ K)
    isplitl [Hin]; · iexact Hin
    iintro H
    iapply Hk
    iapply (mv_leaves V c t _ (outRel_put V c t Y (finds1_4 V c t Y hY) h24) _ _ (stateAt_succ V c t))
    rw [hi]
    iexact H

/-- What the library asks of the body. -/
theorem body_obligation1 : BodyObligationRel (dat1 V c) (defs₀ (F := F)) Variants.none () Set.univ held1 (rel1 V c) := fun t => by
  rw [bigSep_W1, bigSep_W1, defs₀_row1]
  have hrun : iprop((iprop(stg0 c ∗ scratchAt V c t.val) : sProp 𝕄) ∗ (dat1 V c).owesAt () t.castSucc ∗ winsIn V c t)
      ⊢ wp frame (wpE (defs₀ (F := F)) Variants.none c none) Set.univ (bodyAt1 t) fun _ =>
        iprop((iprop(stg0 c ∗ scratchAt V c (t.val + 1)) : sProp 𝕄) ∗ (dat1 V c).owesAt () t.castSucc ∗ winsOut V c t) := by
    iintro ⟨⟨HS, HC⟩, HO, HW⟩
    iapply (mv_run V c t _)
    isplitl [HC HW]
    · isplitl [HC]; · iexact HC
      iexact HW
    iintro ⟨HC, HW⟩
    isplitl [HS HC]
    · isplitl [HS]; · iexact HS
      iexact HC
    isplitl [HO]; · iexact HO
    iexact HW
  exact triple_restated hrun rfl .rfl fun _ => .rfl

/-! ## The array written -/

theorem wholeAt1_4 : (cfg1.win 4).WholeAt tLast := by decide +kernel

/-- The result's final contents, whatever the buffer held before. -/
theorem arrAt1_4 (G) (hG : ((dat1 V c).toRRel held1 (rel1 V c)).ArrAt 4 cfg1.N G) : (G : Vec F S25x4000 .f32) = final V c := by
  obtain ⟨X, hX, hj⟩ := hG.emb_eq_of_wholeAt wholeAt1_4
  have hr : outRel V c tLast X := (dat1 V c).toRRel_leaves (fgt := held1) (w := 4) rfl hX
  have hX : (X : Vec F S25x4000 .f32) = final V c := by
    unfold outRel at hr
    rwa [if_pos rfl] at hr
  funext j
  exact (hj j).trans (congrFun hX j)

end Cert.KernelIdeal.Hand

end
-- ==== Proof.Ideal.Run.lean ====
/-
  The whole run: the two kernel calls and the two host stretches chained, from any memory whose indices lie in the embedding table,
  every buffer's contents at the end.
-/
module

public import proofs.«01_k».proof.Proof.Ideal.Stage0
public import proofs.«01_k».proof.Proof.Ideal.Stage1
public import proofs.«01_k».proof.Proof.Gen.KernelIdeal.Regions
public import Idealize.ShloMosaic.Lib.Pipeline.FrameTail
public import Idealize.ShloMosaic.Lib.StableHlo.RunHlo

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ) (hV : InRange (tblOf (V0 m)))

/-- The buffers after the gather: its result written, the rest as launched. -/
abbrev afterGather (c : Dev nD) : Valuation τ sig (Elt F) := Function.update (V0 m c) main_v0 (gathered (V0 m) hV c)
/-- The buffers before the matrix-vector call. -/
abbrev beforeMv (c : Dev nD) : Valuation τ sig (Elt F) := StableHlo.after hostOps1 (afterGather m hV c)

/-- What the two calls leave in their results. -/
def outs : Outs (F := F) := fun j r c =>
  (if j = 1 then afterGather m hV c else Function.update (beforeMv m hV c) main_v3 (final (beforeMv m hV) c)) (Proc.devRef .tc r)

theorem V1_eq (c : Dev nD) : V1 m (outs m hV) c = afterGather m hV c := by
  simp only [V1, outs, if_pos, Function.update_self]

theorem V2_eq : V2 m (outs m hV) = beforeMv m hV := funext fun c => by
  show StableHlo.after hostOps1 (V1 m (outs m hV) c) = StableHlo.after hostOps1 (afterGather m hV c)
  rw [V1_eq]

theorem outs3 (c : Dev nD) : outs m hV 3 main_v3 c = final (V2 m (outs m hV)) c := by
  rw [V2_eq]
  simp only [outs, show ¬ (3 : ℕ) = 1 by decide, if_false, Function.update_self]

/-- The contents the calls' tables are pinned at. -/
def adms : (p : Fin 2) → (pcfgs (F := F) p).Adm
  | 0 => adm0 (V0 m) hV
  | 1 => Pipeline.Cfg.toPCfg_adm _
  | ⟨_ + 2, h⟩ => absurd h (Nat.not_lt.2 (Nat.le_add_left _ _))

/-- The calls' proof data. -/
def rdats : (p : Fin 2) → (c : Dev nD) → RDat τ (Elt F) Unit ℕ (UR sig nD τ) ℕ (Pipeline.pin (pcfgs (F := F)) (adms m hV) p) c
  | 0 => fun c => (dat0 (V0 m) hV c).toR
  | 1 => fun c => (dat1 (V2 m (outs m hV)) c).toRRel held1 (rel1 (V2 m (outs m hV)) c)
  | ⟨_ + 2, h⟩ => absurd h (Nat.not_lt.2 (Nat.le_add_left _ _))

/-- Nothing is levelled. -/
abbrev noLev : GSem nD τ sig → Finset Unit := fun _ => ∅
abbrev noLv : GSem nD τ sig → Unit → ℕ := fun _ _ => 0

/-- What rides along: the core owes nothing. -/
abbrev ride : Fin 3 → Dev nD → sProp 𝕄 :=
  fun _ c => iprop(emp ∗ ∃ Wd, owes (c : Thread nD τ) (0 : CellTallies nD τ sig Unit) Wd)

theorem after0 (c : Dev nD)
    (A : (w : Fin (Pipeline.pin (pcfgs (F := F)) (adms m hV) 0).W) → Buf (Elt F) (((Pipeline.pin (pcfgs (F := F)) (adms m hV) 0).win w).arr.view.loc (c.tc : Thread nD τ)))
    (hA : ∀ w, (rdats m hV 0 c).ArrAt w (Pipeline.pin (pcfgs (F := F)) (adms m hV) 0).N (A w)) :
    ∀ w, A w = V1 m (outs m hV) c (Proc.devRef .tc (Pipeline.arrRef spec0 w)) := Fin.forall_fin_two.mpr ⟨by
  have h := hA 0
  rw [RDat.ArrAt_in (rd := rdats m hV 0 c) 0 rfl] at h
  exact h.trans (V1_of m (outs m hV) c main_arg1 (by decide)).symm, by
  have h := (dat0 (V0 m) hV c).toR_arrAt 1 _ (A 1) (hA 1)
  rw [V1_eq]
  exact (h.trans (arrAt0_1 (V0 m) hV c)).trans
    (Function.update_self (Proc.devRef .tc main_v0 : DevRef τ sig) (gathered (V0 m) hV c) (V0 m c)).symm⟩

theorem after1 (c : Dev nD)
    (A : (w : Fin (Pipeline.pin (pcfgs (F := F)) (adms m hV) 1).W) → Buf (Elt F) (((Pipeline.pin (pcfgs (F := F)) (adms m hV) 1).win w).arr.view.loc (c.tc : Thread nD τ)))
    (hA : ∀ w, (rdats m hV 1 c).ArrAt w (Pipeline.pin (pcfgs (F := F)) (adms m hV) 1).N (A w)) :
    ∀ w, A w = V3 m (outs m hV) c (Proc.devRef .tc (Pipeline.arrRef spec1 w)) := by
  have hin : ∀ w : Fin cfg1.W, (cfg1.win w).isOut = false → Pipeline.arrRef spec1 w ∉ ([main_v3] : List (Ref sig .tc)) →
      A w = V3 m (outs m hV) c (Proc.devRef .tc (Pipeline.arrRef spec1 w)) := fun w ho hne => by
    have h := hA w
    rw [RDat.ArrAt_in (rd := rdats m hV 1 c) w ho] at h
    exact h.trans (V3_of m (outs m hV) c _ hne).symm
  have hout : A 4 = V3 m (outs m hV) c (Proc.devRef .tc (Pipeline.arrRef spec1 4)) := by
    refine (arrAt1_4 (V2 m (outs m hV)) c (A 4) (hA 4)).trans ?_
    rw [← outs3]
    simp only [V3, Pipeline.arrRef]
    exact (Function.update_self (Proc.devRef .tc main_v3 : DevRef τ sig) (outs m hV 3 main_v3 c) (V2 m (outs m hV) c)).symm
  exact fun w => match w with
    | ⟨0, _⟩ => hin 0 rfl (by decide)
    | ⟨1, _⟩ => hin 1 rfl (by decide)
    | ⟨2, _⟩ => hin 2 rfl (by decide)
    | ⟨3, _⟩ => hin 3 rfl (by decide)
    | ⟨4, _⟩ => hout

/-- The gather's region. -/
def region0 : RDat.RegionSeg (pcfgs (F := F)) (adms m hV) (rdats m hV) () defs₀ Variants.none noLev noLv 0 :=
  Cert.Shared.regionBetween pcfgs (adms m hV) (rdats m hV) () defs₀ Variants.none noLev noLv 0 launch0.to₀
    (fun c => (body_obligation0 (V0 m) hV c).toR) (fun _ _ => rfl) (fun _ => rfl) (fun _ _ _ => rfl)
    (fun c => by
      refine (show iprop(_ ∗ Pipeline.prefHeld pre0 c (fun _ => fullShare) (tblOf (V0 m))) ⊢ _ from ?_)
      rw [prefHeld0_eq]; exact .rfl)
    (fun c => by
      refine (show _ ⊢ iprop(_ ∗ Pipeline.prefHeld pre0 c (fun _ => fullShare) (tblOf (V0 m))) from ?_)
      rw [prefHeld0_eq]; exact .rfl)
    (fun _ => iprop(emp)) (V0 m) (V1 m (outs m hV)) (fun _ _ => rfl)
    (fun c _ => by obtain rfl : c = 0 := Subsingleton.elim _ _; rfl)
    (after0 m hV)
    (fun c d hd => by
      have hne : d ≠ Proc.devRef .tc main_v0 := fun e => (Finset.mem_sdiff.mp hd).2
        (by rw [e]; exact (show Proc.devRef .tc main_v0 ∈ Pipeline.arrRefs (τ := τ) spec0 by decide))
      exact Function.update_of_ne hne _ _)

theorem noTables (c : Dev nD) (h : (Pipeline.Prefetch.none (sig := sig)).Contents (Elt F)) :
    (Pipeline.prefHeld Pipeline.Prefetch.none c (fun _ => fullShare) h : sProp 𝕄) = BI.emp := by
  unfold Pipeline.prefHeld
  rw [show (Finset.univ : Finset (Fin (Pipeline.Prefetch.none (sig := sig)).K)) = ∅ from rfl, BI.bigSep_empty]

/-- The matrix-vector call's region. -/
def region1 : RDat.RegionSeg (pcfgs (F := F)) (adms m hV) (rdats m hV) () defs₀ Variants.none noLev noLv 1 :=
  Cert.Shared.regionBetween pcfgs (adms m hV) (rdats m hV) () defs₀ Variants.none noLev noLv 1 launch₀1
    (fun c => (body_obligation1 (V2 m (outs m hV)) c).toRRel) (fun _ _ => rfl) (fun _ => rfl) (fun _ _ _ => rfl)
    (fun c => by
      refine (show iprop(Pipeline.scopedRest spec1 c ∗ _) ⊢ iprop(stg0 c ∗ scratchAt (V2 m (outs m hV)) c 0) from ?_)
      unfold scratchAt
      rw [scopedRest1_eq, if_pos rfl]
      iintro ⟨⟨H0, H1, H2, H3, ⟨%f, H4⟩, ⟨%g, H5⟩⟩, -⟩
      isplitl [H0 H1 H2 H3]
      · isplitl [H0]; · iexact H0
        isplitl [H1]; · iexact H1
        isplitl [H2]; · iexact H2
        iexact H3
      isplitl [H4]
      · iexists f; rw [owns_whole]; iexact H4
      iexists g; rw [owns_whole]; iexact H5)
    (fun c => by
      refine (show iprop(stg0 c ∗ scratchAt (V2 m (outs m hV)) c cfg1.N) ⊢ iprop(Pipeline.scopedRest spec1 c
        ∗ Pipeline.prefHeld Pipeline.Prefetch.none c (fun _ => fullShare) _) from ?_)
      unfold scratchAt
      rw [noTables, scopedRest1_eq, if_neg (by decide +kernel), owns_whole, owns_whole]
      iintro ⟨⟨H0, H1, H2, H3⟩, H4, H5⟩
      isplitl [H0 H1 H2 H3 H4 H5]
      · isplitl [H0]; · iexact H0
        isplitl [H1]; · iexact H1
        isplitl [H2]; · iexact H2
        isplitl [H3]; · iexact H3
        isplitl [H4]; · iexists _; iexact H4
        iexists _; iexact H5
      iempintro)
    (fun _ => iprop(emp)) (V2 m (outs m hV)) (V3 m (outs m hV)) (fun _ _ => rfl) (fun _ k => k.elim0)
    (after1 m hV)
    (fun c d hd => by
      have hne : d ≠ Proc.devRef .tc main_v3 := fun e => (Finset.mem_sdiff.mp hd).2
        (by rw [e]; exact (show Proc.devRef .tc main_v3 ∈ Pipeline.arrRefs (τ := τ) spec1 by decide))
      exact Function.update_of_ne hne _ _)

/-- The program's items in order. -/
abbrev items (_ : Dev nD) : List (RDat.Seg (pcfgs (F := F)) (adms m hV) (rdats m hV) () defs₀ Variants.none noLev noLv) :=
  [.region (region0 m hV), .host (seg1 m (outs m hV) Variants.none noLev noLv ride), .region (region1 m hV),
    .host (seg3 m (outs m hV) Variants.none noLev noLv ride)]

set_option backward.isDefEq.respectTransparency.types false in
/-- Every weakly fair execution from memory `m`, its indices in the table, ends with every unscoped buffer at the last valuation and
    every semaphore counter at zero. -/
theorem run (g : Dev nD → PrngReg) :
    θ_run defs (onTc (τ := τ) (main (F := F))) ⟨m, fun _ => 0, g⟩ (fun r =>
      (∀ c : Dev nD, ∀ b ∈ Pipeline.ucRefs τ sig, r.2.mem ((c.tc : Thread nD τ).1, b) = V4 m (outs m hV) c b) ∧ r.2.sem = fun _ => 0) := by
  refine RDat.θ_run_regions_kit_dev_sems (pcfgs (F := F)) (adms m hV) (rdats m hV) () (cellOf_inj _) emb₁ defs₀ Variants.none noLev noLv m g main
    (items m hV)
    (fun c Q => by
      rewrite [main_chain c, RDat.Seg.run_eq_chain,
        show (items m hV c).map RDat.Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide)
    0 (fun _ _ => rfl) (fun _ => iprop(emp))
    (initOf (Pipeline.cells (Pipeline.pin pcfgs (adms m hV)) (cellOf_inj _)) (Pipeline.launchToks (Pipeline.pin pcfgs (adms m hV)) (cellOf_inj _)))
    (by
      iintro Hu; imodintro
      isplitl [Hu]
      · iapply (show (ownU _ : sProp 𝕄) ⊢ BI.own (emb₁ (initOf (Pipeline.cells (Pipeline.pin pcfgs (adms m hV)) (cellOf_inj _))
          (Pipeline.launchToks (Pipeline.pin pcfgs (adms m hV)) (cellOf_inj _)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ ride 0 c))
    (Tₙ := fun c => StableHlo.held (c : Thread nD τ) (Pipeline.ucRefs τ sig) (V4 m (outs m hV) c))
    (hch := fun c => ⟨.rfl, .rfl, .rfl, .rfl, sep_mono .rfl (by iintro ⟨-, H⟩; iexact H)⟩)
    (hinit := ?_) (QY := fun c s => ∀ b ∈ Pipeline.ucRefs τ sig, s.mem ((c.tc : Thread nD τ).1, b) = V4 m (outs m hV) c b)
    (hfin := fun c s' => ?_) (hQ := fun _ h hz => ⟨h, funext fun g => hz g (.inr (regions_no_unscoped g.2))⟩)
  · refine Pipeline.initEach noLev noLv fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    iintro ⟨⟨Hh, -, HO, -⟩, -⟩
    imodintro
    isplitl [Hh]; · iexact Hh
    isplitr; · iempintro
    iexists ∅; iexact HO
  · unfold StableHlo.held
    iintro ⟨Hh, HSI⟩
    ihave Hr := (pointsTo_read_all (Pipeline.ucRefs τ sig) (fun b => ((c : Thread nD τ).1, b)) (V4 m (outs m hV) c) s') $$ [Hh HSI]
    · isplitl [Hh] <;> iassumption
    imodintro
    iexact Hr

/-- The same said of the program's arguments and its result. -/
theorem run_args (g : Dev nD → PrngReg) :
    θ_run defs (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_v4) = V4 m (outs m hV) c (Proc.devRef .tc main_v4))
      ∧ r.2.sem = fun _ => 0) :=
  Idealize.ShloMosaic.θ_run_mono (run m hV g) fun r h => ⟨fun c => by
    have hr := fun b hb => h.1 c (Proc.devRef .tc b) (Pipeline.devRef_mem_ucRefs hb)
    exact ⟨(hr main_arg0 rfl).trans (V4_main_arg0 m (outs m hV) c), (hr main_arg1 rfl).trans (V4_main_arg1 m (outs m hV) c),
      (hr main_arg2 rfl).trans (V4_main_arg2 m (outs m hV) c), (hr main_arg3 rfl).trans (V4_main_arg3 m (outs m hV) c), hr main_v4 rfl⟩, h.2⟩

end Cert.KernelIdeal.Hand

end
-- ==== Proof.RefRun.lean ====
/-
  The reference program's run: its operations in order, what each stage of them computes, and the run's result.
-/
module

public import proofs.«01_k».proof.Proof.Gen.ReferenceIdeal
public import Idealize.ShloMosaic.Lib.StableHlo.RunHlo
public import Idealize.ShloMosaic.Lib.Quiescent

@[expose] public section

noncomputable section

namespace Cert.ReferenceIdeal.Hand

open Idealize.ShloMosaic Idealize.ShloMosaic.StableHlo Idealize.SL.Sem
open Cert.ReferenceIdeal Cert.ReferenceIdeal.Gen

variable {F : FTy → Type} [FloatOps F]

/-- The gather's start rows: an index below zero counts from the end. -/
def starts (x : IVec S20 32) : IVec S20x1 32 :=
  broadcastInDim S20x1 ![0] bcast_S20_S20x1_0
    (select (cmpi .slt x (broadcastInDim S20 ![] bcast_S_S20 (constantI S_ 32 0#32)))
      (addi x (broadcastInDim S20 ![] bcast_S_S20 (constantI S_ 32 100000#32))) x)

/-- Which start rows lie in the table. -/
def inside (x : IVec S20 32) : IVec S20x1 1 :=
  andi (cmpi .sge (starts x) (broadcastInDim S20x1 ![] bcast_S_S20x1 (constantI S_ 32 0#32)))
    (cmpi .sle (starts x) (broadcastInDim S20x1 ![0, 1] bcast_S1x1_S20x1_0_1 (broadcastInDim S1x1 ![1] bcast_S1_S1x1_1 (constantI S1 32 99999#32))))

/-- The rows taken from the table, a row outside it filled with the fill pattern. -/
def taken (x : IVec S20 32) (e : FVec F S100000x32 .f32) : FVec F S20x32 .f32 :=
  select (broadcastInDim S20x32 ![0] bcast_S20_S20x32_0 (Host.reduce IntOp.andi (inside x) (constantI S_ 1 1#1) reducesTo_S20x1_S20_d1 h_S_))
    (Host.gather gather_S100000x32_S20x1_S20x32_1_0_n_n_0_1_132 e (starts x))
    (broadcastInDim S20x32 ![] bcast_S_S20x32 (constant S_ .f32 0x7FC00000#32))

/-- The scores: the taken rows laid side by side, times the transposed weights, plus the bias. -/
def scores (x : IVec S20 32) (e : FVec F S100000x32 .f32) (w : FVec F S100000x640 .f32) (b : FVec F S100000 .f32) : FVec F S1x100000 .f32 :=
  addf (Host.dotGeneral dot_S1x640_S640x100000_S1x100000_1_0_0_1_n_n none (shapeCast S1x640 (taken x e) shapeCasts_S20x32_S1x640)
      (transpose S640x100000 [1, 0] w transposes_S100000x640_S640x100000_1_0))
    (broadcastInDim S1x100000 ![1] bcast_S100000_S1x100000_1 b)

/-- The greatest score, as a row of one element. -/
def topScore (v : FVec F S1x100000 .f32) : FVec F S1 .f32 :=
  maximumf (broadcastInDim S1 ![] bcast_S_S1 (constant S_ .f32 0xFF800000#32))
    (Host.reduce FloatOps.maximumf v (constant S_ .f32 0xFF800000#32) reducesTo_S1x100000_S1_d1 h_S_)

/-- The scores less the greatest. -/
def shifted (v : FVec F S1x100000 .f32) : FVec F S1x100000 .f32 :=
  subf v (broadcastInDim S1x100000 ![0, 1] bcast_S1x1_S1x100000_0_1 (broadcastInDim S1x1 ![0] bcast_S1_S1x1_0 (topScore v)))

/-- The shifted scores less the logarithm of the sum of their exponentials. -/
def logSoftmax (v : FVec F S1x100000 .f32) : FVec F S1x100000 .f32 :=
  subf (shifted v) (broadcastInDim S1x100000 ![0, 1] bcast_S1x1_S1x100000_0_1 (Host.log (broadcastInDim S1x1 ![0] bcast_S1_S1x1_0
    (Host.reduceAdd (Host.exp (shifted v)) (constant S_ .f32 0x00000000#32) reducesTo_S1x100000_S1_d1 h_S_))))

/-- The program's operations in order, the two calls unfolded. -/
abbrev ops : List (HloOp τ sig (Elt F)) :=
  [ TRef.nullary main_call0.c (constantI S_ 32 0#32),
    TRef.unary main_call0.c main_call0.v0 (broadcastInDim S20 ![] bcast_S_S20),
    TRef.binary (.of main_arg0) main_call0.v0 main_call0.v1 (cmpi .slt),
    TRef.nullary main_call0.c_0 (constantI S_ 32 100000#32),
    TRef.unary main_call0.c_0 main_call0.v2 (broadcastInDim S20 ![] bcast_S_S20),
    TRef.binary (.of main_arg0) main_call0.v2 main_call0.v3 addi,
    TRef.ternary main_call0.v1 main_call0.v3 (.of main_arg0) main_call0.call0.v0 select,
    TRef.unary main_call0.call0.v0 main_call0.v5 (broadcastInDim S20x1 ![0] bcast_S20_S20x1_0),
    TRef.nullary main_call0.c_1 (constantI S1 32 99999#32),
    TRef.nullary main_call0.c_2 (constantI S_ 32 0#32),
    TRef.unary main_call0.c_2 main_call0.v6 (broadcastInDim S20x1 ![] bcast_S_S20x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S20x1 ![0, 1] bcast_S1x1_S20x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S20x1_S20_d1 h_S_),
    TRef.binary (.of main_arg1) main_call0.v5 main_call0.v13 (fun x i => Host.gather gather_S100000x32_S20x1_S20x32_1_0_n_n_0_1_132 x i),
    TRef.unary main_call0.v12 main_call0.v14 (broadcastInDim S20x32 ![0] bcast_S20_S20x32_0),
    TRef.nullary main_call0.cst (constant S_ .f32 0x7FC00000#32),
    TRef.unary main_call0.cst main_call0.v15 (broadcastInDim S20x32 ![] bcast_S_S20x32),
    TRef.ternary main_call0.v14 main_call0.v13 main_call0.v15 main_call0.v16 select,
    reshape main_v0 main_v1 rfl shapeCasts_S20x32_S1x640,
    unary main_arg2 main_v2 (transpose S640x100000 [1, 0] · transposes_S100000x640_S640x100000_1_0),
    binary main_v1 main_v2 main_v3 (fun l r => Host.dotGeneral dot_S1x640_S640x100000_S1x100000_1_0_0_1_n_n none l r),
    unary main_arg3 main_v4 (broadcastInDim S1x100000 ![1] bcast_S100000_S1x100000_1),
    binary main_v3 main_v4 main_v5 addf,
    TRef.nullary main_call1.cst (constant S_ .f32 0xFF800000#32),
    TRef.binary (.of main_v5 : TRef sig ⟨S1x100000, .f32⟩) main_call1.cst main_call1.v0 (fun x v => Host.reduce FloatOps.maximumf x v reducesTo_S1x100000_S1_d1 h_S_),
    TRef.nullary main_call1.cst_0 (constant S_ .f32 0xFF800000#32),
    TRef.unary main_call1.cst_0 main_call1.v1 (broadcastInDim S1 ![] bcast_S_S1),
    TRef.binary main_call1.v1 main_call1.v0 main_call1.v2 maximumf,
    TRef.unary main_call1.v2 main_call1.v3 (broadcastInDim S1x1 ![0] bcast_S1_S1x1_0),
    TRef.unary main_call1.v3 main_call1.v4 (broadcastInDim S1x100000 ![0, 1] bcast_S1x1_S1x100000_0_1),
    TRef.binary (.of main_v5 : TRef sig ⟨S1x100000, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S1x100000_S1_d1 h_S_),
    TRef.unary main_call1.v7 main_call1.v8 (broadcastInDim S1x1 ![0] bcast_S1_S1x1_0),
    TRef.unary main_call1.v8 main_call1.v9 Host.log,
    TRef.unary main_call1.v9 main_call1.v10 (broadcastInDim S1x100000 ![0, 1] bcast_S1x1_S1x100000_0_1),
    TRef.binary main_call1.v5 main_call1.v10 main_call1.v11 subf ]

set_option maxRecDepth 4096 in
/-- The program is that straight line of operations. -/
theorem main_eq (c : Dev nD) : main (F := F) c = seq ops := by
  simp only [main, fn_take.body, fn_where.body, fn_log_softmax.body, ops, seq, bind_assoc, pure_bind]
  rfl

set_option maxRecDepth 8192 in
/-- What the operations leave in the result: the log-softmax of the scores. -/
theorem out_eq (V : Valuation τ sig (Elt F)) :
    after ops V (Proc.devRef .tc main_v6)
      = logSoftmax (scores (V (Proc.devRef .tc main_arg0)) (V (Proc.devRef .tc main_arg1)) (V (Proc.devRef .tc main_arg2))
          (V (Proc.devRef .tc main_arg3))) := by
  unfold ops
  after_results_simp
  simp only [TRef.ofBuf_toBuf]
  simp only [TRef.ofBuf, TRef.toBuf, cast_eq]
  unfold logSoftmax shifted topScore scores taken inside starts
  rfl

/-- No operation writes an argument. -/
theorem args_eq (V : Valuation τ sig (Elt F)) :
    after ops V (Proc.devRef .tc main_arg0) = V (Proc.devRef .tc main_arg0) ∧ after ops V (Proc.devRef .tc main_arg1) = V (Proc.devRef .tc main_arg1)
      ∧ after ops V (Proc.devRef .tc main_arg2) = V (Proc.devRef .tc main_arg2) ∧ after ops V (Proc.devRef .tc main_arg3) = V (Proc.devRef .tc main_arg3) := by
  refine ⟨?_, ?_, ?_, ?_⟩ <;> (simp only [ops, after_cons, after_nil]; rfl)

/-- Every operation works on buffers of the core. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..,
    unary_bufs_sub .., binary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub ..⟩

/-- Every operation determines its result. -/
theorem ops_fresh : ∀ op ∈ (ops : List (HloOp τ sig (Elt F))), op.fresh = ∅ := by
  refine List.forall_iff_forall_mem.mp ?_
  unfold ops
  repeat' first
    | exact rfl
    | constructor

/-- The run, from any memory: it ends with the arguments as they were, the result the log-softmax of the scores, and every semaphore zero. -/
theorem run (m : (ℓ : Loc nD τ sig) → Buf (Elt F) ℓ) (g : Dev nD → PrngReg) :
    θ_run defs (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_v6) = logSoftmax (scores (m ((c.tc : Thread nD τ).loc main_arg0))
            (m ((c.tc : Thread nD τ).loc main_arg1)) (m ((c.tc : Thread nD τ).loc main_arg2)) (m ((c.tc : Thread nD τ).loc main_arg3))))
      ∧ r.2.sem = fun _ => 0) :=
  Idealize.ShloMosaic.θ_run_mono (run_seq (by decide) (by decide) defs main (fun _ => ops) main_eq (fun _ => ops_sub) m g
    (fun _ => ops_fresh)) fun r h =>
    ⟨fun c => by
      have ha := args_eq (F := F) (launchContents m c)
      exact ⟨(h c main_arg0).trans ha.1, (h c main_arg1).trans ha.2.1, (h c main_arg2).trans ha.2.2.1, (h c main_arg3).trans ha.2.2.2,
        (h c main_v6).trans (out_eq _)⟩, sem_eq_zero_of_no_sems rfl _⟩

end Cert.ReferenceIdeal.Hand

end
-- ==== Proof.Pre.lean ====
/-
  What the two preconditions say, element by element: every index names a row of the embedding table, and (the second one)
  every element of the three float arrays is a real number.
-/
module

public import proofs.«01_k».proof.Pre_in_vocab
public import proofs.«01_k».proof.Pre_finite_in_vocab
public import Idealize.ShloMosaic.Lib.ReduceAll
public import Idealize.ShloMosaic.Lib.IdealHost

@[expose] public section

noncomputable section

namespace Cert.Shared

open Idealize.ShloMosaic Idealize.ShloMosaic.ValueIdx

/-- The empty shape has one index. -/
instance : Subsingleton (⟨0, ![]⟩ : Shape).Idx := ⟨fun a b => funext fun i => i.elim0⟩

/-- A word that is at least 0 and below 100000, both read signed, is below 100000 read unsigned. -/
theorem toNat_lt_of_signed (a : BitVec 32) (h0 : IntOp.cmpi .sge a 0#32 = 1#1) (h1 : IntOp.cmpi .slt a 100000#32 = 1#1) :
    a.toNat < 100000 := by
  rw [IntOp.cmpi_sge] at h0
  rw [IntOp.cmpi_slt] at h1
  rw [show (0#32 : BitVec 32).toInt = 0 from by decide] at h0
  rw [show (100000#32 : BitVec 32).toInt = 100000 from by decide] at h1
  rw [BitVec.toInt_eq_toNat_cond] at h0 h1
  split at h0 <;> omega

/-- An extended real whose absolute value is below infinity is neither infinity. -/
theorem finite_of_abs_lt (x : EReal) (h : max x (-x) < ⊤) : x ≠ ⊤ ∧ x ≠ ⊥ :=
  ⟨fun e => by subst e; simp at h, fun e => by subst e; simp at h⟩

section InVocab
variable {F : FTy → Type} [FloatOps F] [Cert.Pre_in_vocab.Facts]

/-- The first precondition: every index is below 100000. -/
theorem word_lt_of_in_vocab {x : IVec ⟨1, ![20]⟩ 32} {e : FVec F ⟨2, ![100000, 32]⟩ .f32} {w : FVec F ⟨2, ![100000, 640]⟩ .f32}
    {b : FVec F ⟨1, ![100000]⟩ .f32} (h : Cert.Pre_in_vocab.fn x e w b = fun _ => 1#1) (j : (⟨1, ![20]⟩ : Shape).Idx) :
    (x j).toNat < 100000 := by
  have h1 := Host.reduce_andi_all _ _ _ _ ix0 (congrFun h ix0) j
  obtain ⟨ha, hb⟩ := IntOp.andi_eq_one.1 h1
  exact toNat_lt_of_signed _ ha hb

end InVocab

section Finite
variable [Cert.Pre_finite_in_vocab.Facts]

/-- One array's part of the second precondition: each element's absolute value is below infinity, so it is a real number. -/
theorem finite_of_all {s : Shape} {axes : List (Fin s.rank)} (x : FVec Ideal s .f32) (hb : (⟨0, ![]⟩ : Shape).BroadcastsInDim s ![])
    (init : (⟨0, ![]⟩ : Shape).Idx → BitVec 1) (hr : s.ReducesTo axes ⟨0, ![]⟩) (hu : 0 < (⟨0, ![]⟩ : Shape).numel)
    (h : Host.reduce IntOp.andi (cmpf .olt (Host.absf x) (broadcastInDim s ![] hb (constant ⟨0, ![]⟩ .f32 0x7F800000#32))) init hr hu ix0 = 1#1)
    (j : s.Idx) : x j ≠ ⊤ ∧ x j ≠ ⊥ := by
  have h1 := Host.reduce_andi_all _ _ _ _ ix0 h j
  refine finite_of_abs_lt (x j) ?_
  have h2 : BitVec.ofBool (decide (max (x j) (-(x j)) < Ideal.ofBits .f32 0x7F800000#32)) = 1#1 := h1
  have h3 : ∀ p : Bool, BitVec.ofBool p = 1#1 → p = true := by decide
  exact lt_of_lt_of_le (of_decide_eq_true (h3 _ h2)) le_top

/-- The second precondition: every index is below 100000, and every element of the table, the weights and the bias is real. -/
theorem of_finite_in_vocab {x : IVec ⟨1, ![20]⟩ 32} {e : FVec Ideal ⟨2, ![100000, 32]⟩ .f32} {w : FVec Ideal ⟨2, ![100000, 640]⟩ .f32}
    {b : FVec Ideal ⟨1, ![100000]⟩ .f32} (h : Cert.Pre_finite_in_vocab.fn x e w b = fun _ => 1#1) :
    (∀ j, (x j).toNat < 100000) ∧ (∀ j, e j ≠ ⊤ ∧ e j ≠ ⊥) ∧ (∀ j, w j ≠ ⊤ ∧ w j ≠ ⊥) ∧ ∀ j, b j ≠ ⊤ ∧ b j ≠ ⊥ := by
  obtain ⟨h15, hb⟩ := IntOp.andi_eq_one.1 (congrFun h ix0)
  obtain ⟨h10, hw⟩ := IntOp.andi_eq_one.1 h15
  obtain ⟨h5, he⟩ := IntOp.andi_eq_one.1 h10
  refine ⟨fun j => ?_, finite_of_all e _ _ _ _ he, finite_of_all w _ _ _ _ hw, finite_of_all b _ _ _ _ hb⟩
  obtain ⟨ha, hb⟩ := IntOp.andi_eq_one.1 (Host.reduce_andi_all _ _ _ _ ix0 h5 j)
  exact toNat_lt_of_signed _ ha hb

end Finite

end Cert.Shared

end
-- ==== Proof.Softmax.lean ====
/-
  The arithmetic of the log-softmax over the extended reals, at real scores: the running maximum and sum of the kernel, and the
  shifted form of the reference, are both the score less the logarithm of the sum of the scores' exponentials.
-/
module

public import Idealize.ShloMosaic.PureOps.Ideal.Laws

@[expose] public section

noncomputable section

namespace Cert.Shared

open Idealize.ShloMosaic
open scoped BigOperators

/-- A finite sum of reals, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real that is neither infinity is a real. -/
theorem exists_real {x : EReal} (h : x ≠ ⊤ ∧ x ≠ ⊥) : ∃ r : ℝ, x = r := ⟨x.toReal, (EReal.coe_toReal h.1 h.2).symm⟩

/-- The maximum of a value that is not `⊤` and a real is a real. -/
theorem max_real {M : EReal} (hM : M ≠ ⊤) (r : ℝ) : ∃ m : ℝ, max M r = m :=
  exists_real ⟨fun h => by
      rcases max_choice M (r : EReal) with h' | h' <;> rw [h'] at h
      exacts [hM h, EReal.coe_ne_top r h],
    fun h => EReal.coe_ne_bot r (le_bot_iff.mp (h ▸ le_max_right M (r : EReal)))⟩

/-- The maximum, from `⊥`, of finitely many reals, at least one, is a real. -/
theorem fold_max_real {ι : Type} (s : Finset ι) (hs : s.Nonempty) (f : ι → ℝ) : ∃ m : ℝ, s.fold max ⊥ (fun i => ((f i : ℝ) : EReal)) = m := by
  classical
  induction hs using Finset.Nonempty.cons_induction with
  | singleton a => exact ⟨f a, by rw [Finset.fold_singleton]; exact max_bot_right _⟩
  | cons a s ha hs ih =>
    obtain ⟨m, hm⟩ := ih
    rw [Finset.fold_cons, hm]
    exact max_real (EReal.coe_ne_top _) m

/-- The running pair `(M, S)` stands for `L`: `S · e^M = L`, or nothing has been added yet. -/
def Stands (M S : EReal) (L : ℝ) : Prop :=
  (∃ m s : ℝ, M = m ∧ S = s ∧ s * Real.exp m = L) ∨ (M = ⊥ ∧ S = 0 ∧ L = 0)

theorem Stands.ne_top {M S : EReal} {L : ℝ} (h : Stands M S L) : M ≠ ⊤ := by
  rcases h with ⟨m, s, rfl, -, -⟩ | ⟨rfl, -, -⟩
  exacts [EReal.coe_ne_top m, bot_ne_top]

/-- The sum of the exponentials of reals less a real. -/
theorem sum_exp_sub {ι : Type} (s : Finset ι) (f : ι → ℝ) (m : ℝ) :
    ∑ i ∈ s, Ideal.exp (((f i : ℝ) : EReal) - (m : EReal)) = (((∑ i ∈ s, Real.exp (f i)) * Real.exp (-m) : ℝ) : EReal) := by
  rw [Finset.sum_mul, ← coe_sum]
  refine Finset.sum_congr rfl fun i _ => ?_
  rw [← EReal.coe_sub, Ideal.exp_coe, sub_eq_add_neg, Real.exp_add]

/-- One step of the running pair: rescaled to the new maximum, two blocks of exponentials added, it stands for the sum with the two
    blocks added. -/
theorem Stands.step {M S : EReal} {L : ℝ} (h : Stands M S L) {ι κ : Type} (s : Finset ι) (t : Finset κ) (a : ι → ℝ) (b : κ → ℝ) (m : ℝ) :
    Stands m (S * Ideal.exp (M - m) + ∑ i ∈ s, Ideal.exp (((a i : ℝ) : EReal) - m) + ∑ i ∈ t, Ideal.exp (((b i : ℝ) : EReal) - m))
      (L + ∑ i ∈ s, Real.exp (a i) + ∑ i ∈ t, Real.exp (b i)) := by
  have hm : Real.exp (-m) * Real.exp m = 1 := by rw [← Real.exp_add]; simp
  rw [sum_exp_sub, sum_exp_sub]
  have hS : S * Ideal.exp (M - m) = ((L * Real.exp (-m) : ℝ) : EReal) := by
    rcases h with ⟨m₀, s₀, rfl, rfl, rfl⟩ | ⟨rfl, rfl, rfl⟩
    · rw [← EReal.coe_sub, Ideal.exp_coe, ← EReal.coe_mul, sub_eq_add_neg, Real.exp_add, mul_assoc]
    · simp
  refine .inl ⟨m, _, rfl, by rw [hS, ← EReal.coe_add, ← EReal.coe_add], ?_⟩
  rw [← add_mul, ← add_mul, mul_assoc, hm, mul_one]

/-- A score less the running pair's maximum and the logarithm of its sum is the score less the logarithm of what the pair stands for. -/
theorem Stands.close {M S : EReal} {L : ℝ} (h : Stands M S L) (hL : 0 < L) (z : ℝ) :
    ((z : ℝ) : EReal) - (M + Ideal.log S) = ((z - Real.log L : ℝ) : EReal) := by
  rcases h with ⟨m, s, rfl, rfl, rfl⟩ | ⟨-, -, rfl⟩
  · have hs : 0 < s := pos_of_mul_pos_left hL (Real.exp_pos m).le
    rw [Ideal.log_coe, if_neg (not_le.mpr hs), Real.log_mul hs.ne' (Real.exp_pos m).ne', Real.log_exp, ← EReal.coe_add, ← EReal.coe_sub,
      add_comm]
  · exact absurd hL (lt_irrefl 0)

/-- The shifted form, at any real shift: the shifted score less the logarithm of the sum of the shifted scores' exponentials is the
    score less the logarithm of the sum of the scores' exponentials. -/
theorem shifted_close {ι : Type} (s : Finset ι) (f : ι → ℝ) (m z : ℝ) (hL : 0 < ∑ i ∈ s, Real.exp (f i)) :
    (((z : ℝ) : EReal) - m) - Ideal.log (∑ i ∈ s, Ideal.exp (((f i : ℝ) : EReal) - m)) = ((z - Real.log (∑ i ∈ s, Real.exp (f i)) : ℝ) : EReal) := by
  rw [sum_exp_sub, Ideal.log_coe, if_neg (not_le.mpr (mul_pos hL (Real.exp_pos _))), Real.log_mul hL.ne' (Real.exp_pos _).ne', Real.log_exp,
    ← EReal.coe_sub, ← EReal.coe_sub]
  congr 1
  ring

end Cert.Shared

end
-- ==== Proof.Score.lean ====
/-
  The score of a word, as plain mathematics, and the few readings both programs share: a maximum of reals is a real, and a sum over the
  elements of a row is a sum over their column numbers.
-/
module

public import proofs.«01_k».proof.Proof.Softmax
public import Idealize.ShloMosaic.Lib.ValueIdx

@[expose] public section

noncomputable section

namespace Cert.Shared

open Idealize.ShloMosaic Idealize.ShloMosaic.ValueIdx
open scoped BigOperators

section Score
variable (x : (⟨1, ![20]⟩ : Shape).Idx → BitVec 32) (hx : ∀ j, (x j).toNat < 100000)
variable (e : (⟨2, ![100000, 32]⟩ : Shape).Idx → EReal) (w : (⟨2, ![100000, 640]⟩ : Shape).Idx → EReal)
variable (b : (⟨1, ![100000]⟩ : Shape).Idx → EReal)

/-- Component `h` of the embedding of the `i`-th index. -/
def embedding (i : Fin 20) (h : Fin 32) : EReal := e (ix2 ⟨(x (ix1 i)).toNat, hx _⟩ h)

/-- Component `k` of the twenty embeddings laid side by side. -/
def feature (k : Fin 640) : EReal :=
  embedding x hx e ⟨k.val / 32, by omega⟩ ⟨k.val % 32, Nat.mod_lt _ (by decide)⟩

/-- The score of word `v`: the features times row `v` of the weights, plus the bias. -/
def score (v : Fin 100000) : EReal := (∑ k : Fin 640, feature x hx e k * w (ix2 v k)) + b (ix1 v)

/-- On real embeddings, weights and biases the scores are reals. -/
theorem score_real (he : ∀ j, e j ≠ ⊤ ∧ e j ≠ ⊥) (hw : ∀ j, w j ≠ ⊤ ∧ w j ≠ ⊥) (hb : ∀ j, b j ≠ ⊤ ∧ b j ≠ ⊥) (v : Fin 100000) :
    ∃ r : ℝ, score x hx e w b v = r := by
  have h : ∀ k : Fin 640, ∃ r : ℝ, feature x hx e k * w (ix2 v k) = (r : EReal) := fun k => by
    obtain ⟨a, ha⟩ := exists_real (he (ix2 ⟨(x (ix1 ⟨k.val / 32, by omega⟩)).toNat, hx _⟩ ⟨k.val % 32, Nat.mod_lt _ (by decide)⟩))
    obtain ⟨c, hc⟩ := exists_real (hw (ix2 v k))
    exact ⟨a * c, by rw [EReal.coe_mul, ← ha, ← hc]; rfl⟩
  choose f hf using h
  obtain ⟨c, hc⟩ := exists_real (hb (ix1 v))
  refine ⟨(∑ k, f k) + c, ?_⟩
  unfold score
  rw [Finset.sum_congr rfl fun k _ => hf k, coe_sum, hc, ← EReal.coe_add]

/-- The scores as a sequence of reals. -/
theorem exists_scores (he : ∀ j, e j ≠ ⊤ ∧ e j ≠ ⊥) (hw : ∀ j, w j ≠ ⊤ ∧ w j ≠ ⊥) (hb : ∀ j, b j ≠ ⊤ ∧ b j ≠ ⊥) :
    ∃ g : ℕ → ℝ, ∀ v : Fin 100000, score x hx e w b v = g v.val := by
  choose g hg using score_real x hx e w b he hw hb
  exact ⟨fun n => if h : n < 100000 then g ⟨n, h⟩ else 0, fun v => by beta_reduce; rw [hg, dif_pos v.isLt]⟩

end Score

/-! ## Maxima and sums of a whole row -/

/-- The word the maxima start from is `-∞`. -/
theorem negInf_eq : Ideal.ofBits .f32 0xFF800000#32 = ⊥ := by simp [Ideal.ofBits, Ideal.ieee]

/-- The maximum of all elements of an array of reals is a real. -/
theorem max_total_real {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (i₀ : s.Idx) (f : s.Idx → ℝ)
    (hf : ∀ i, src i = f i) (j : t.Idx) : ∃ m : ℝ, multiReduction .maximumf axes t src 0xFF800000#32 h hφ hacc j = (m : EReal) := by
  rw [multiReduction_maximumf_eq_fold, Finset.filter_true_of_mem fun i _ => funext fun b => Fin.ext (by
    have := (h.drop i b).isLt; have := (j b).isLt; have := ht b; omega)]
  obtain rfl : src = fun i => ((f i : ℝ) : EReal) := funext hf
  obtain ⟨m, hm⟩ := fold_max_real Finset.univ ⟨i₀, Finset.mem_univ _⟩ f
  refine ⟨m, Eq.trans ?_ hm⟩
  rw [← negInf_eq]
  rfl

/-- A sum over a one-row array is a sum over the columns. -/
theorem sum_row2 {M : Type} [AddCommMonoid M] (n : ℕ) (f : ℕ → M) : ∑ i : (⟨2, ![1, n]⟩ : Shape).Idx, f (i 1).val = ∑ v ∈ Finset.range n, f v := by
  rw [Finset.sum_range]
  exact Fintype.sum_equiv ⟨fun i => (i 1 : Fin n), fun a => ix2 (0 : Fin 1) a,
    fun i => by rw [eq_ix2 i]; exact congrArg (ix2 · (i 1)) (Subsingleton.elim (α := Fin 1) _ _), fun _ => rfl⟩ _ _ fun _ => rfl

/-- A sum over a one-row array with another unit axis in front is a sum over the columns. -/
theorem sum_row3 {M : Type} [AddCommMonoid M] (n : ℕ) (f : ℕ → M) : ∑ i : (⟨3, ![1, 1, n]⟩ : Shape).Idx, f (i 2).val = ∑ v ∈ Finset.range n, f v := by
  rw [Finset.sum_range]
  exact Fintype.sum_equiv ⟨fun i => (i 2 : Fin n), fun a => ix3 (0 : Fin 1) (0 : Fin 1) a,
    fun i => by
      rw [eq_ix3 i]
      exact congrArg₂ (ix3 · · (i 2)) (Subsingleton.elim (α := Fin 1) _ _) (Subsingleton.elim (α := Fin 1) _ _), fun _ => rfl⟩ _ _ fun _ => rfl

end Cert.Shared

end
-- ==== Proof.Ideal.BlockValue.lean ====
/-
  What one point of the second kernel computes, at the ideal values: the features laid side by side, the two rows of logits, and the
  step the running maximum and sum take when the logits are reals.
-/
module

public import proofs.«01_k».proof.Proof.Ideal.MvValues
public import proofs.«01_k».proof.Proof.Score
public import Idealize.ShloMosaic.Lib.MatmulPlain
public import Idealize.ShloMosaic.Lib.Pipeline.Value
public import Idealize.ShloMosaic.Lib.Pipeline.ValueKit.Tiles

@[expose] public section

noncomputable section

namespace Cert.KernelIdeal.Hand

open Cert.KernelIdeal Cert.KernelIdeal.Gen
open Idealize.ShloMosaic Idealize.ShloMosaic.TcCoe Cert.Shared
open Idealize.ShloMosaic.ValueIdx (ix1 ix2 ix3 eq_ix2)
open scoped BigOperators

/-! ## The features -/

/-- Row `n` of the gathered rows, for any of the twenty, as the point reads it. -/
def rowAt (x : Vec Ideal S20x32 .f32) (n : Fin 20) : Vec Ideal S1x32 .f32 :=
  shapeCast S1x32 (rowOf x n.val (Fin.forall_fin_two.mpr ⟨by show n.val + 1 ≤ 20; omega, Nat.le_refl 32⟩)) shapeCasts_S1x32_S1x32

theorem concatenates_rows (x : Vec Ideal S20x32 .f32) :
    Shape.Concatenates ((List.ofFn fun n : Fin 20 => (⟨S1x32, rowAt x n⟩ : (s : Shape) × (s.Idx → Ideal .f32))).map (·.1)) S1x640 1 := by
  rw [List.map_ofFn]
  show Shape.Concatenates (List.ofFn fun _ : Fin 20 => S1x32) S1x640 1
  decide

/-- The features are the twenty rows, concatenated. -/
theorem embRow_eq (x : Vec Ideal S20x32 .f32) :
    embRow x = concatenate S1x640 1 (List.ofFn fun n : Fin 20 => (⟨S1x32, rowAt x n⟩ : (s : Shape) × (s.Idx → Ideal .f32))) (concatenates_rows x) := by
  unfold embRow k1_pay17
  exact shapeCast_self _ _

/-- Feature `k` is component `k % 32` of row `k / 32`. -/
theorem embRow_apply (x : Vec Ideal S20x32 .f32) (k : Fin 640) :
    embRow x (ix2 0 k) = x (ix2 ⟨k.val / 32, by omega⟩ ⟨k.val % 32, Nat.mod_lt _ (by decide)⟩) := by
  rw [embRow_eq]
  refine (concatenate_ofFn_apply (s₁ := S1x32) (t := S1x640) 1 (rowAt x) (concatenates_rows x) rfl 32 rfl (ix2 0 k) ⟨k.val / 32, by omega⟩ rfl
    (ix2 0 ⟨k.val % 32, Nat.mod_lt _ (by decide)⟩) rfl (Fin.forall_fin_two.mpr ⟨fun _ => rfl, fun h => absurd rfl h⟩)).trans ?_
  unfold rowAt rowOf
  rw [shapeCast_self]
  exact View.ld_unit_apply_of (S := S20x32) x _ _ _ _ _ (Fin.forall_fin_two.mpr ⟨rfl, (Nat.zero_add _).symm⟩)

/-! ## The logits of a point -/

theorem matmul_bias (e : Vec Ideal S1x640 .f32) (w : Vec Ideal S2000x640 .f32) (v : Vec Ideal S1x1x2000 .f32) (r : Fin 2000) :
    k1_pay18 e w v (ix2 0 r) = (∑ k : Fin 640, e (ix2 0 k) * w (ix2 r k)) + v (ix3 0 0 r) := by
  unfold k1_pay18
  refine congrArg₂ (· + ·) ((Ideal.matmul_transposedRhs_apply (M := 1) (K := 640) (N := 2000) none e w _ 0 r).trans
    ((congrArg (· + _) Ideal.ofBits_zero_f32).trans (zero_add _))) ?_
  refine shapeCast_apply _ _ (ix2 0 r) (ix3 0 0 r) ?_
  rw [Shape.rowMajor_val_two, Shape.rowMajor_val_three]
  rfl

/-- Logit `r` of the first block: the features times row `r` of the block, plus the bias. -/
theorem logA_apply (e : Vec Ideal S1x640 .f32) (w : Vec Ideal S2000x640 .f32) (b : Vec Ideal S1x1x4000 .f32) (r : Fin 2000) :
    logA e w b (ix2 0 r) = (∑ k : Fin 640, e (ix2 0 k) * w (ix2 r k)) + b (ix3 0 0 ⟨r.val, by omega⟩) := by
  unfold logA
  refine (matmul_bias e w _ r).trans (congrArg (_ + ·) ?_)
  exact View.ld_unit_apply_of (S := S1x1x4000) b _ _ _ _ _ fun a : Fin 3 => match a with
    | ⟨0, _⟩ => rfl | ⟨1, _⟩ => rfl | ⟨2, _⟩ => (Nat.zero_add _).symm

/-- Logit `r` of the second block: the same with the second half of the bias. -/
theorem logB_apply (e : Vec Ideal S1x640 .f32) (w : Vec Ideal S2000x640 .f32) (b : Vec Ideal S1x1x4000 .f32) (r : Fin 2000) :
    logB e w b (ix2 0 r) = (∑ k : Fin 640, e (ix2 0 k) * w (ix2 r k)) + b (ix3 0 0 ⟨2000 + r.val, by omega⟩) := by
  unfold logB
  refine (matmul_bias e w _ r).trans (congrArg (_ + ·) ?_)
  exact View.ld_unit_apply_of (S := S1x1x4000) b _ _ _ _ _ fun a : Fin 3 => match a with
    | ⟨0, _⟩ => rfl | ⟨1, _⟩ => rfl | ⟨2, _⟩ => rfl

/-! ## The running maximum and sum -/

/-- The one number of a one-element row, taken out of it. -/
theorem extract_one (v : FVec Ideal S1 .f32) :
    extractAt ![0, 0, 0] (shapeCast S1x1x1 v shapeCasts_S1_S1x1x1) inpos_S1x1x1_p0_0_0 = v (ix1 0) :=
  shapeCast_apply _ _ _ (ix1 (0 : Fin 1)) rfl

/-- A row of logits with a unit axis in front. -/
theorem lift_apply (v : FVec Ideal S1x2000 .f32) (i : S1x1x2000.Idx) :
    shapeCast S1x1x2000 v shapeCasts_S1x2000_S1x1x2000 i = v (ix2 0 (i 2)) := by
  refine shapeCast_apply _ _ i (ix2 0 (i 2)) ?_
  rw [Shape.rowMajor_val_two, Shape.rowMajor_val_three]
  have h0 : (i 0).val < 1 := (i 0).isLt
  have h1 : (i 1).val < 1 := (i 1).isLt
  show 0 * 2000 + (i 2).val = ((i 0).val * 1 + (i 1).val) * 2000 + (i 2).val
  omega

theorem size_S1 (b : Fin S1.rank) : S1.size b = 1 := by
  obtain rfl : b = (0 : Fin 1) := Subsingleton.elim (α := Fin 1) _ _
  rfl

/-- The sum over a row of logits. -/
theorem sum_block (v : FVec Ideal S1x2000 .f32) (f : ℕ → EReal) (hv : ∀ i : S1x2000.Idx, v i = f (i 1).val) :
    extractAt ![0, 0, 0] (shapeCast S1x1x1 (multiReduction .add [1, 2] S1 (shapeCast S1x1x2000 v shapeCasts_S1x2000_S1x1x2000) 0x00000000#32
      reduces_S1x1x2000_S1 (.inl rfl) rfl) shapeCasts_S1_S1x1x1) inpos_S1x1x1_p0_0_0 = ∑ n ∈ Finset.range 2000, f n := by
  refine (extract_one _).trans ((Ideal.multiReduction_add_total _ _ reduces_S1x1x2000_S1 size_S1 (.inl rfl) rfl (ix1 0)).trans ?_)
  exact (Finset.sum_congr rfl fun i _ => (lift_apply v i).trans (hv _)).trans (sum_row3 2000 f)

/-- The maximum of a row of real logits is a real. -/
theorem max_block (v : FVec Ideal S1x2000 .f32) (f : ℕ → ℝ) (hv : ∀ i : S1x2000.Idx, v i = f (i 1).val) :
    ∃ m : ℝ, extractAt ![0, 0, 0] (shapeCast S1x1x1 (multiReduction .maximumf [1, 2] S1 (shapeCast S1x1x2000 v shapeCasts_S1x2000_S1x1x2000)
      0xFF800000#32 reduces_S1x1x2000_S1 (.inl rfl) rfl) shapeCasts_S1_S1x1x1) inpos_S1x1x1_p0_0_0 = (m : EReal) := by
  obtain ⟨m, hm⟩ := max_total_real (shapeCast S1x1x2000 v shapeCasts_S1x2000_S1x1x2000) reduces_S1x1x2000_S1 size_S1 (.inl rfl) rfl
    (ix3 (0 : Fin 1) (0 : Fin 1) (0 : Fin 2000)) (fun i => f (i 2).val) (fun i => (lift_apply v i).trans (hv _)) (ix1 0)
  exact ⟨m, (extract_one _).trans hm⟩

section Step
variable (e : Vec Ideal S1x640 .f32) (w1 w2 : Vec Ideal S2000x640 .f32) (b : Vec Ideal S1x1x4000 .f32) (M S : EReal)
variable (f g : ℕ → ℝ) (hA : ∀ i : S1x2000.Idx, logA e w1 b i = f (i 1).val) (hB : ∀ i : S1x2000.Idx, logB e w2 b i = g (i 1).val)
include hA hB

/-- From a running maximum that is not `⊤`, on real logits, the new running maximum is a real. -/
theorem newMax_real (hM : M ≠ ⊤) : ∃ m : ℝ, newMax (F := Ideal) e w1 w2 b M = (m : EReal) := by
  obtain ⟨p, hp⟩ := max_block (logA e w1 b) f hA
  obtain ⟨q, hq⟩ := max_block (logB e w2 b) g hB
  obtain ⟨r, hr⟩ := max_real (EReal.coe_ne_top p) q
  obtain ⟨m, hm⟩ := max_real hM r
  refine ⟨m, Eq.trans ?_ hm⟩
  rw [← hr, ← hp, ← hq]
  rfl

/-- The new running sum: the old one rescaled to the new maximum, plus the exponentials of the logits less the new maximum. -/
theorem newSum_eq (m : ℝ) (hm : newMax (F := Ideal) e w1 w2 b M = (m : EReal)) :
    newSum (F := Ideal) e w1 w2 b M S = S * Ideal.exp (M - m) + ∑ n ∈ Finset.range 2000, Ideal.exp (((f n : ℝ) : EReal) - m)
      + ∑ n ∈ Finset.range 2000, Ideal.exp (((g n : ℝ) : EReal) - m) := by
  rw [← sum_block (exp (subf (logA e w1 b) (broadcast S1x2000 (newMax (F := Ideal) e w1 w2 b M)))) (fun n => Ideal.exp (((f n : ℝ) : EReal) - m))
      fun i => congrArg Ideal.exp (congrArg₂ (· - ·) (hA i) hm),
    ← sum_block (exp (subf (logB e w2 b) (broadcast S1x2000 (newMax (F := Ideal) e w1 w2 b M)))) (fun n => Ideal.exp (((g n : ℝ) : EReal) - m))
      fun i => congrArg Ideal.exp (congrArg₂ (· - ·) (hB i) hm), ← hm]
  rfl

/-- A point takes a running pair that stands for `L` to one that stands for `L` plus the exponentials of the point's logits. -/
theorem step_stands (L : ℝ) (h : Stands M S L) :
    Stands (newMax (F := Ideal) e w1 w2 b M) (newSum (F := Ideal) e w1 w2 b M S)
      (L + ∑ n ∈ Finset.range 2000, Real.exp (f n) + ∑ n ∈ Finset.range 2000, Real.exp (g n)) := by
  obtain ⟨m, hm⟩ := newMax_real e w1 w2 b M f g hA hB h.ne_top
  rw [newSum_eq e w1 w2 b M S f g hA hB m hm, hm]
  exact h.step _ _ f g m

end Step

/-- What the last point writes at an element: the logit less the running maximum and the logarithm of the running sum. -/
theorem closeRows_apply (e : Vec Ideal S1x640 .f32) (w1 w2 : Vec Ideal S2000x640 .f32) (b : Vec Ideal S1x1x4000 .f32) (M S : EReal)
    (o : Vec Ideal S25x4000 .f32) (y : S25x4000.Idx) :
    closeRows (F := Ideal) e w1 w2 b M S o y = o y - (newMax (F := Ideal) e w1 w2 b M + Ideal.log (newSum (F := Ideal) e w1 w2 b M S)) := by
  unfold closeRows k1_pay2
  rw [shapeCast_self]
  rfl

end Cert.KernelIdeal.Hand

end
-- ==== Proof.Ideal.LogitsValue.lean ====
/-
  What the second kernel call leaves in its result, at the ideal values: its logits are the scores of the words, its running pair stands
  for the sum of the exponentials of the scores so far, and the array at the end holds the log-softmax of the scores.
-/
module

public import proofs.«01_k».proof.Proof.Ideal.Stage1
public import proofs.«01_k».proof.Proof.Ideal.BlockValue

@[expose] public section

noncomputable section

namespace Cert.KernelIdeal.Hand

open Cert.KernelIdeal Cert.KernelIdeal.Gen
open Idealize.ShloMosaic Idealize.ShloMosaic.TcCoe Cert.Shared
open Idealize.ShloMosaic.ValueIdx (ix1 ix2 ix3 eq_ix2)
open scoped BigOperators

variable (V : Dev nD → Valuation τ sig (Elt Ideal)) (c : Dev nD)

/-! ## The blocks -/

theorem lt25 (t : Fin cfg1.N) : t.val < 25 := lt_of_lt_of_eq t.isLt N_1

theorem map1_eq (t : Fin cfg1.N) : cc1_transform_1 (grid1.coords t) = ![2 * t.val, 0] := by
  have h := (show ∀ n : Fin 25, (![(Scalar.muli 2#32 (BitVec.ofNat 32 n.val) : BitVec 32).toNat, 0] : Fin 2 → ℕ) = ![2 * n.val, 0] by decide)
    ((grid1.coords t) 0)
  rw [coords1_val] at h
  rw [← h, ← coords1_val]
  rfl

theorem map2_eq (t : Fin cfg1.N) : cc1_transform_2 (grid1.coords t) = ![2 * t.val + 1, 0] := by
  have h := (show ∀ n : Fin 25, (![(Scalar.addi (Scalar.muli 2#32 (BitVec.ofNat 32 n.val)) 1#32 : BitVec 32).toNat, 0] : Fin 2 → ℕ) = ![2 * n.val + 1, 0]
    by decide) ((grid1.coords t) 0)
  rw [coords1_val] at h
  rw [← h, ← coords1_val]
  rfl

theorem map3_eq (t : Fin cfg1.N) : cc1_transform_3 (grid1.coords t) = ![t.val, 0, 0] := by
  have h := (show ∀ n : Fin 25, (![(BitVec.ofNat 32 n.val : BitVec 32).toNat, 0, 0] : Fin 3 → ℕ) = ![n.val, 0, 0] by decide) ((grid1.coords t) 0)
  rw [coords1_val] at h
  rw [← h, ← coords1_val]
  rfl

/-- Row `r` of the first weight block of point `t` is row `4000 t + r` of the weights. -/
theorem wA_apply (t : Fin cfg1.N) (r : Fin 2000) (k : Fin 640) (v : Fin 100000) (hv : v.val = 4000 * t.val + r.val) :
    wA V c t (ix2 r k) = (V c (Proc.devRef .tc main_arg2) : Vec Ideal S100000x640 .f32) (ix2 v k) := by
  refine congrArg (V c (Proc.devRef .tc main_arg2) : Vec Ideal S100000x640 .f32) (funext fun a => Fin.ext
    (((cfg1.win 1).rect_emb_val t (ix2 r k) a rfl).trans ?_))
  show cc1_transform_1 (grid1.coords t) a * S2000x640.size a + _ = _
  rw [map1_eq]
  revert a
  refine Fin.forall_fin_two.mpr ⟨?_, ?_⟩
  · show 2 * t.val * 2000 + r.val = v.val
    omega
  · show 0 * 640 + k.val = k.val
    omega

/-- Row `r` of the second weight block of point `t` is row `4000 t + 2000 + r` of the weights. -/
theorem wB_apply (t : Fin cfg1.N) (r : Fin 2000) (k : Fin 640) (v : Fin 100000) (hv : v.val = 4000 * t.val + 2000 + r.val) :
    wB V c t (ix2 r k) = (V c (Proc.devRef .tc main_arg2) : Vec Ideal S100000x640 .f32) (ix2 v k) := by
  refine congrArg (V c (Proc.devRef .tc main_arg2) : Vec Ideal S100000x640 .f32) (funext fun a => Fin.ext
    (((cfg1.win 2).rect_emb_val t (ix2 r k) a rfl).trans ?_))
  show cc1_transform_2 (grid1.coords t) a * S2000x640.size a + _ = _
  rw [map2_eq]
  revert a
  refine Fin.forall_fin_two.mpr ⟨?_, ?_⟩
  · show (2 * t.val + 1) * 2000 + r.val = v.val
    omega
  · show 0 * 640 + k.val = k.val
    omega

/-- The bias block of point `t` is row `t` of the bias laid out in rows of 4000. -/
theorem bb_apply (t : Fin cfg1.N) (j : Fin 4000) :
    bb V c t (ix3 0 0 j) = (V c (Proc.devRef .tc main_v2) : Vec Ideal S25x1x4000 .f32) (ix3 ⟨t.val, lt25 t⟩ 0 j) := by
  refine congrArg (V c (Proc.devRef .tc main_v2) : Vec Ideal S25x1x4000 .f32) (funext fun a => Fin.ext
    (((cfg1.win 3).rect_emb_val t (ix3 0 0 j) a rfl).trans ?_))
  show cc1_transform_3 (grid1.coords t) a * S1x1x4000.size a + _ = _
  rw [map3_eq]
  exact match a with
    | ⟨0, _⟩ => (show t.val * 1 + 0 = t.val by omega)
    | ⟨1, _⟩ => (show 0 * 1 + 0 = 0 by omega)
    | ⟨2, _⟩ => (show 0 * 4000 + j.val = j.val by omega)

/-! ## The logits -/

section Scores
variable (x : (⟨1, ![20]⟩ : Shape).Idx → BitVec 32) (hx : ∀ j, (x j).toNat < 100000)
variable (e : (⟨2, ![100000, 32]⟩ : Shape).Idx → EReal) (b : (⟨1, ![100000]⟩ : Shape).Idx → EReal)
variable (hrows : ∀ (i : Fin 20) (h : Fin 32), rows1 V c (ix2 i h) = embedding x hx e i h)
variable (hbias : ∀ (t : Fin 25) (j : Fin 4000) (v : Fin 100000), v.val = 4000 * t.val + j.val →
  (V c (Proc.devRef .tc main_v2) : Vec Ideal S25x1x4000 .f32) (ix3 t 0 j) = b (ix1 v))
include hrows hbias

/-- Logit `r` of the first block of point `t` is the score of word `4000 t + r`. -/
theorem lgA_apply (t : Fin cfg1.N) (r : Fin 2000) (v : Fin 100000) (hv : v.val = 4000 * t.val + r.val) :
    lgA V c t (ix2 0 r) = score x hx e (V c (Proc.devRef .tc main_arg2)) b v := by
  refine (logA_apply _ _ _ r).trans (congrArg₂ (· + ·) (Finset.sum_congr rfl fun k _ => congrArg₂ (· * ·) ?_ (wA_apply V c t r k v hv)) ?_)
  · exact (embRow_apply _ k).trans (hrows _ _)
  · exact (bb_apply V c t _).trans (hbias _ _ v hv)

/-- Logit `r` of the second block of point `t` is the score of word `4000 t + 2000 + r`. -/
theorem lgB_apply (t : Fin cfg1.N) (r : Fin 2000) (v : Fin 100000) (hv : v.val = 4000 * t.val + 2000 + r.val) :
    lgB V c t (ix2 0 r) = score x hx e (V c (Proc.devRef .tc main_arg2)) b v := by
  refine (logB_apply _ _ _ r).trans (congrArg₂ (· + ·) (Finset.sum_congr rfl fun k _ => congrArg₂ (· * ·) ?_ (wB_apply V c t r k v hv)) ?_)
  · exact (embRow_apply _ k).trans (hrows _ _)
  · exact (bb_apply V c t _).trans (hbias _ _ v (by show v.val = 4000 * t.val + (2000 + r.val); omega))

/-! ## The running pair and the array at the end, on real scores -/

variable (g : ℕ → ℝ) (hg : ∀ v : Fin 100000, score x hx e (V c (Proc.devRef .tc main_arg2)) b v = g v.val)
include hg

theorem lgA_real (t : Fin cfg1.N) (i : S1x2000.Idx) : lgA V c t i = g (4000 * t.val + (i 1).val) := by
  have ht := lt25 t
  have hi : (i 1).val < 2000 := (i 1).isLt
  obtain ⟨r, rfl⟩ : ∃ r : Fin 2000, i = ix2 0 r :=
    ⟨i 1, (eq_ix2 i).trans (congrArg (ix2 · (i 1)) (Subsingleton.elim (α := Fin 1) _ _))⟩
  exact (lgA_apply V c x hx e b hrows hbias t r ⟨4000 * t.val + r.val, by omega⟩ rfl).trans (hg _)

theorem lgB_real (t : Fin cfg1.N) (i : S1x2000.Idx) : lgB V c t i = g (4000 * t.val + 2000 + (i 1).val) := by
  have ht := lt25 t
  have hi : (i 1).val < 2000 := (i 1).isLt
  obtain ⟨r, rfl⟩ : ∃ r : Fin 2000, i = ix2 0 r :=
    ⟨i 1, (eq_ix2 i).trans (congrArg (ix2 · (i 1)) (Subsingleton.elim (α := Fin 1) _ _))⟩
  exact (lgB_apply V c x hx e b hrows hbias t r ⟨4000 * t.val + 2000 + r.val, by omega⟩ rfl).trans (hg _)

/-- The logit at row `i`, column `j` is the score of word `4000 i + j`. -/
theorem logits_real (y : S25x4000.Idx) : logits V c y = g (4000 * (y 0).val + (y 1).val) := by
  unfold logits
  split
  · exact lgA_real V c x hx e b hrows hbias g hg _ _
  · rename_i h
    refine (lgB_real V c x hx e b hrows hbias g hg _ _).trans (congrArg (fun n => ((g n : ℝ) : EReal)) ?_)
    show 4000 * (y 0).val + 2000 + ((y 1).val - 2000) = _
    omega

/-- The running pair before point `n` stands for the sum of the exponentials of the first `4000 n` scores. -/
theorem state_stands (n : ℕ) (hn : n ≤ 25) :
    Stands (stateAt V c n).1 (stateAt V c n).2 (∑ v ∈ Finset.range (4000 * n), Real.exp (g v)) := by
  induction n with
  | zero => exact .inr ⟨negInf_eq, Ideal.ofBits_zero_f32, by simp⟩
  | succ n ih =>
    have h := step_stands (embRow (rows1 V c)) (wA V c ⟨n, lt_of_lt_of_eq hn N_1.symm⟩) (wB V c ⟨n, lt_of_lt_of_eq hn N_1.symm⟩)
      (bb V c ⟨n, lt_of_lt_of_eq hn N_1.symm⟩) _ _ (fun k => g (4000 * n + k)) (fun k => g (4000 * n + 2000 + k))
      (lgA_real V c x hx e b hrows hbias g hg ⟨n, _⟩) (lgB_real V c x hx e b hrows hbias g hg ⟨n, _⟩) _ (ih (by omega))
    rw [show 4000 * (n + 1) = 4000 * n + 2000 + 2000 by ring, Finset.sum_range_add, Finset.sum_range_add,
      stateAt_succ V c ⟨n, lt_of_lt_of_eq hn N_1.symm⟩]
    exact h

/-- The array at the end: the score less the logarithm of the sum of all the scores' exponentials. -/
theorem final_apply (y : S25x4000.Idx) :
    final V c y = ((g (4000 * (y 0).val + (y 1).val) - Real.log (∑ v ∈ Finset.range 100000, Real.exp (g v)) : ℝ) : EReal) := by
  have h := state_stands V c x hx e b hrows hbias g hg 25 (Nat.le_refl _)
  rw [show (25 : ℕ) = (tLast).val + 1 from rfl, stateAt_succ V c tLast] at h
  refine (closeRows_apply _ _ _ _ _ _ _ y).trans ?_
  rw [logits_real V c x hx e b hrows hbias g hg y]
  exact h.close (Finset.sum_pos (fun _ _ => Real.exp_pos _) ⟨0, by simp⟩) _

end Scores

end Cert.KernelIdeal.Hand

end
-- ==== Proof.Ideal.OutValue.lean ====
/-
  The kernel's result in terms of its arguments: what the host's two reshapes hand the second call, and the result's element for each
  word.
-/
module

public import proofs.«01_k».proof.Proof.Ideal.Run
public import proofs.«01_k».proof.Proof.Ideal.LogitsValue

@[expose] public section

noncomputable section

namespace Cert.KernelIdeal.Hand

open Cert.KernelIdeal Cert.KernelIdeal.Gen
open Idealize.ShloMosaic Idealize.ShloMosaic.TcCoe Cert.Shared
open Idealize.ShloMosaic.ValueIdx (ix1 ix2 ix3 eq_ix2)
open scoped BigOperators

variable (m : (ℓ : Loc nD τ sig) → Buf (Elt Ideal) ℓ) (hV : InRange (tblOf (V0 m))) (c : Dev nD)

/-- The indices the run is launched with. -/
abbrev inX : IVec S20 32 := m ((c.tc : Thread nD τ).loc main_arg0)
/-- The embedding table. -/
abbrev inE : FVec Ideal S100000x32 .f32 := m ((c.tc : Thread nD τ).loc main_arg1)
/-- The weights. -/
abbrev inW : FVec Ideal S100000x640 .f32 := m ((c.tc : Thread nD τ).loc main_arg2)
/-- The bias. -/
abbrev inB : FVec Ideal S100000 .f32 := m ((c.tc : Thread nD τ).loc main_arg3)

/-- The second call's weights are the argument's. -/
theorem weights_eq : (V2 m (outs m hV) c (Proc.devRef .tc main_arg2) : Vec Ideal S100000x640 .f32) = inW m c :=
  (V2_of m (outs m hV) c main_arg2 (by decide)).trans (V1_of m (outs m hV) c main_arg2 (by decide))

/-- The second call's rows are the gathered rows without their unit axis. -/
theorem rows_eq : rows1 (V2 m (outs m hV)) c = shapeCast S20x32 (gathered (V0 m) hV c) shapeCasts_S20x1x32_S20x32 := by
  have h : (V2 m (outs m hV) c (Proc.devRef .tc main_v1) : Vec Ideal S20x32 .f32)
      = shapeCast S20x32 (V1 m (outs m hV) c (Proc.devRef .tc main_v0) : Vec Ideal S20x1x32 .f32) shapeCasts_S20x1x32_S20x32 := by
    show StableHlo.after hostOps1 (V1 m (outs m hV) c) (Proc.devRef .tc main_v1) = _
    after_results_simp
    rfl
  rw [V1_eq] at h
  exact h.trans (congrArg (shapeCast S20x32 · shapeCasts_S20x1x32_S20x32)
    (Function.update_self (Proc.devRef .tc main_v0 : DevRef τ sig) (gathered (V0 m) hV c) (V0 m c)))

/-- The second call's bias is the argument's, in rows of 4000. -/
theorem bias_eq : (V2 m (outs m hV) c (Proc.devRef .tc main_v2) : Vec Ideal S25x1x4000 .f32) = shapeCast S25x1x4000 (inB m c) shapeCasts_S100000_S25x1x4000 := by
  have h : (V2 m (outs m hV) c (Proc.devRef .tc main_v2) : Vec Ideal S25x1x4000 .f32)
      = shapeCast S25x1x4000 (V1 m (outs m hV) c (Proc.devRef .tc main_arg3) : Vec Ideal S100000 .f32) shapeCasts_S100000_S25x1x4000 := by
    show StableHlo.after hostOps1 (V1 m (outs m hV) c) (Proc.devRef .tc main_v2) = _
    after_results_simp
    rfl
  exact h.trans (congrArg (shapeCast S25x1x4000 · shapeCasts_S100000_S25x1x4000) (V1_of m (outs m hV) c main_arg3 (by decide)))

/-- The result is the second call's array laid out in one row. -/
theorem result_eq : (V4 m (outs m hV) c (Proc.devRef .tc main_v4) : Vec Ideal S1x100000 .f32)
    = shapeCast S1x100000 (final (V2 m (outs m hV)) c) shapeCasts_S25x4000_S1x100000 := by
  have h : (V4 m (outs m hV) c (Proc.devRef .tc main_v4) : Vec Ideal S1x100000 .f32)
      = shapeCast S1x100000 (V3 m (outs m hV) c (Proc.devRef .tc main_v3) : Vec Ideal S25x4000 .f32) shapeCasts_S25x4000_S1x100000 := by
    show StableHlo.after hostOps2 (V3 m (outs m hV) c) (Proc.devRef .tc main_v4) = _
    after_results_simp
    rfl
  rw [← outs3]
  exact h.trans (congrArg (shapeCast S1x100000 · shapeCasts_S25x4000_S1x100000)
    (Function.update_self (Proc.devRef .tc main_v3 : DevRef τ sig) (outs m hV 3 main_v3 c) (V2 m (outs m hV) c)))

/-- Row `i` of the second call's rows is the embedding of the `i`-th index. -/
theorem rows_apply (hx : ∀ j, (inX m c j).toNat < 100000) (i : Fin 20) (h : Fin 32) :
    rows1 (V2 m (outs m hV)) c (ix2 i h) = embedding (inX m c) hx (inE m c) i h := by
  rw [rows_eq]
  refine (shapeCast_apply _ _ (ix2 i h) (ix3 i 0 h) ?_).trans ?_
  · rw [Shape.rowMajor_val_two, Shape.rowMajor_val_three]
    show (i.val * 1 + 0) * 32 + h.val = i.val * 32 + h.val
    omega
  · obtain rfl : c = 0 := Subsingleton.elim _ _
    rfl

/-- The bias in rows of 4000, at an element. -/
theorem bias_apply (t : Fin 25) (j : Fin 4000) (v : Fin 100000) (hv : v.val = 4000 * t.val + j.val) :
    (V2 m (outs m hV) c (Proc.devRef .tc main_v2) : Vec Ideal S25x1x4000 .f32) (ix3 t 0 j) = inB m c (ix1 v) := by
  rw [bias_eq]
  refine shapeCast_apply _ _ (ix3 t 0 j) (ix1 v) ?_
  rw [Shape.rowMajor_val_one, Shape.rowMajor_val_three]
  show v.val = (t.val * 1 + 0) * 4000 + j.val
  omega

/-- The result's element for a word, when the scores are the reals `g`: the word's score less the logarithm of the sum of all the
    scores' exponentials. -/
theorem result_apply (hx : ∀ j, (inX m c j).toNat < 100000) (g : ℕ → ℝ)
    (hg : ∀ v : Fin 100000, score (inX m c) hx (inE m c) (inW m c) (inB m c) v = g v.val) (y : S1x100000.Idx) :
    (V4 m (outs m hV) c (Proc.devRef .tc main_v4) : Vec Ideal S1x100000 .f32) y
      = ((g (y 1).val - Real.log (∑ v ∈ Finset.range 100000, Real.exp (g v)) : ℝ) : EReal) := by
  have hy : (y 1).val < 100000 := (y 1).isLt
  have hy0 : (y 0).val < 1 := (y 0).isLt
  have hd : 4000 * ((y 1).val / 4000) + (y 1).val % 4000 = (y 1).val := Nat.div_add_mod _ _
  rw [result_eq]
  refine (shapeCast_apply _ _ y (ix2 (⟨(y 1).val / 4000, by omega⟩ : Fin 25) (⟨(y 1).val % 4000, Nat.mod_lt _ (by decide)⟩ : Fin 4000)) ?_).trans ?_
  · rw [Shape.rowMajor_val_two, Shape.rowMajor_val_two]
    show (y 1).val / 4000 * 4000 + (y 1).val % 4000 = (y 0).val * 100000 + (y 1).val
    omega
  · have key := final_apply (V2 m (outs m hV)) c (inX m c) hx (inE m c) (inB m c) (rows_apply m hV c hx) (bias_apply m hV c) g
      (fun v => by rw [weights_eq]; exact hg v)
      (ix2 (⟨(y 1).val / 4000, by omega⟩ : Fin 25) (⟨(y 1).val % 4000, Nat.mod_lt _ (by decide)⟩ : Fin 4000))
    generalize Real.log (∑ v ∈ Finset.range 100000, Real.exp (g v)) = L at key ⊢
    exact key.trans (congrArg (fun n => ((g n - L : ℝ) : EReal)) hd)

end Cert.KernelIdeal.Hand

end
-- ==== Proof.RefValue.lean ====
/-
  What the reference's stages compute at one element: the rows it takes from the table, the scores, and the log-softmax of real scores.
-/
module

public import proofs.«01_k».proof.Proof.RefRun
public import proofs.«01_k».proof.Proof.Score
public import Idealize.ShloMosaic.Lib.ReduceAll
public import Idealize.ShloMosaic.Lib.WordCmp
public import Idealize.ShloMosaic.Lib.Routing.Ops
public import Idealize.ShloMosaic.Lib.StackMember
public import Idealize.ShloMosaic.Lib.KernelVsHost
public import Idealize.ShloMosaic.Lib.Pipeline.Value

@[expose] public section

noncomputable section

namespace Cert.ReferenceIdeal.Hand

open Idealize.ShloMosaic Cert.Shared
open Cert.ReferenceIdeal Cert.ReferenceIdeal.Gen
open Idealize.ShloMosaic.ValueIdx (ix1 ix2 ix3 eq_ix1 eq_ix2)
open scoped BigOperators

/-! ## The rows taken -/

section Taken
variable (x : IVec S20 32) (hx : ∀ j, (x j).toNat < 100000)
include hx

/-- An index in the vocabulary is its own start row. -/
theorem starts_apply (j : S20x1.Idx) : starts x j = x (ix1 (j 0)) := by
  unfold starts
  refine (broadcastInDim_apply _ _ _ j (ix1 (j 0)) fun a : Fin 1 => by obtain rfl : a = 0 := Subsingleton.elim _ _; rfl).trans (if_neg fun h => ?_)
  have h' : IntOp.cmpi .slt (x (ix1 (j 0))) 0#32 = 1#1 := h
  rw [WordCmp.cmpi_slt_of_lt (Nat.lt_trans (hx _) (by decide)) (by decide)] at h'
  simp at h'

/-- An index in the vocabulary is inside the table. -/
theorem inside_apply (j : S20x1.Idx) : inside x j = 1#1 := by
  have hj := hx (ix1 (j 0))
  refine IntOp.andi_eq_one.2 ⟨?_, ?_⟩
  · show IntOp.cmpi .sge (starts x j) 0#32 = 1#1
    rw [starts_apply x hx, WordCmp.cmpi_sge_of_lt (Nat.lt_trans hj (by decide)) (by decide)]
    simp
  · show IntOp.cmpi .sle (starts x j) 99999#32 = 1#1
    rw [starts_apply x hx, WordCmp.cmpi_sle_of_lt (Nat.lt_trans hj (by decide)) (by decide),
      decide_eq_true (by show _ ≤ 99999; omega)]
    rfl

/-- Row `i` of the rows taken is the embedding of the `i`-th index. -/
theorem taken_apply (e : FVec Ideal S100000x32 .f32) (i : Fin 20) (h : Fin 32) : taken x e (ix2 i h) = embedding x hx e i h := by
  unfold taken
  refine (if_pos ?_).trans ?_
  · exact Host.reduce_andi_one _ _ _ _ _ rfl (inside_apply x hx)
  · refine Routing.gather_row gather_S100000x32_S20x1_S20x32_1_0_n_n_0_1_132 rfl rfl rfl rfl rfl e (starts x) i h
      ⟨(x (ix1 i)).toNat, hx _⟩ ?_ (by decide)
    rw [starts_apply x hx]
    exact ((BitVec.ofNat_toNat 32 _).trans (BitVec.setWidth_eq _)).symm

end Taken

/-! ## The scores -/

/-- The scores the reference computes are the scores of the words. -/
theorem scores_apply (x : IVec S20 32) (hx : ∀ j, (x j).toNat < 100000) (e : FVec Ideal S100000x32 .f32) (w : FVec Ideal S100000x640 .f32)
    (b : FVec Ideal S100000 .f32) (v : Fin 100000) : scores x e w b (ix2 0 v) = score x hx e w b v := by
  unfold scores score
  refine congrArg₂ (· + ·) ((Idealize.ShloMosaic.StackMember.dotGeneral_plain_apply (m := 1) (k := 640) (n := 100000) none _ _ 0 v).trans
    (Finset.sum_congr rfl fun k _ => congrArg₂ (· * ·) ?_ ?_)) ?_
  · refine (shapeCast_apply _ _ (ix2 0 k) (ix2 ⟨k.val / 32, by omega⟩ ⟨k.val % 32, Nat.mod_lt _ (by decide)⟩) ?_).trans (taken_apply x hx e _ _)
    rw [Shape.rowMajor_val_two, Shape.rowMajor_val_two]
    show k.val / 32 * 32 + k.val % 32 = 0 * 640 + k.val
    omega
  · exact transpose_apply _ _ _ (ix2 k v) (ix2 v k) (Fin.forall_fin_two.mpr ⟨rfl, rfl⟩)
  · exact broadcastInDim_apply _ _ _ (ix2 0 v) (ix1 v) fun a : Fin 1 => by obtain rfl : a = 0 := Subsingleton.elim _ _; rfl

/-! ## The log-softmax -/

theorem reduces_row : S1x100000.Reduces [1] S1 := by decide

/-- The greatest of real scores is a real. -/
theorem topScore_real (v : FVec Ideal S1x100000 .f32) (f : S1x100000.Idx → ℝ) (hf : ∀ i, v i = f i) (j : S1.Idx) :
    ∃ m : ℝ, topScore v j = (m : EReal) := by
  obtain ⟨m, hm⟩ := max_total_real v reduces_row (fun b : Fin 1 => by obtain rfl : b = 0 := Subsingleton.elim _ _; rfl) (.inl rfl) rfl
    (ix2 (0 : Fin 1) (0 : Fin 100000)) f hf j
  refine ⟨m, Eq.trans ?_ ((congrFun (hostReduce_maximumf_eq_multiReduction v 0xFF800000#32 reducesTo_S1x100000_S1_d1 h_S_ reduces_row (.inl rfl) rfl) j).trans hm)⟩
  show max (Ideal.ofBits .f32 0xFF800000#32) _ = _
  rw [negInf_eq]
  exact max_bot_left _

/-- The host's logarithm at the ideal values. -/
theorem hostLog_apply {s : Shape} (y : FVec Ideal s .f32) (i : s.Idx) : Host.log y i = Ideal.log (y i) := Ideal.hostUnary_log_def (y i)

/-- The log-softmax at an element: the shifted score less the logarithm of the sum `L` of the shifted scores' exponentials. -/
theorem logSoftmax_of_sum (v : FVec Ideal S1x100000 .f32) (L : EReal)
    (hL : Host.reduceAdd (Host.exp (shifted v)) (constant S_ .f32 0x00000000#32) reducesTo_S1x100000_S1_d1 h_S_ (ix1 0) = L) (i : S1x100000.Idx) :
    logSoftmax v i = shifted v i - Ideal.log L := by
  unfold logSoftmax
  refine congrArg (shifted v i - ·) ((broadcastInDim_apply _ _ _ i (ix2 (0 : Fin 1) (0 : Fin 1)) (Fin.forall_fin_two.mpr ⟨rfl, rfl⟩)).trans ?_)
  exact (hostLog_apply _ _).trans (congrArg Ideal.log ((broadcastInDim_apply _ _ _ (ix2 (0 : Fin 1) (0 : Fin 1)) (ix1 (0 : Fin 1)) fun a : Fin 1 => by
      obtain rfl : a = 0 := Subsingleton.elim _ _; rfl).trans hL))

/-- The shifted scores: the scores less a real. -/
theorem shifted_apply (v : FVec Ideal S1x100000 .f32) (g : ℕ → ℝ) (hv : ∀ i : S1x100000.Idx, v i = g (i 1).val) :
    ∃ m : ℝ, ∀ i : S1x100000.Idx, shifted v i = ((g (i 1).val : ℝ) : EReal) - (m : EReal) := by
  obtain ⟨m, hm⟩ := topScore_real v (fun i => g (i 1).val) hv (ix1 0)
  refine ⟨m, fun i => ?_⟩
  unfold shifted
  exact congrArg₂ (· - ·) (hv i) ((broadcastInDim_apply _ _ _ i (ix2 (0 : Fin 1) (0 : Fin 1)) (Fin.forall_fin_two.mpr ⟨rfl, rfl⟩)).trans
    ((broadcastInDim_apply _ _ _ _ (ix1 (0 : Fin 1)) fun a : Fin 1 => by obtain rfl : a = 0 := Subsingleton.elim _ _; rfl).trans hm))

/-- The log-softmax of real scores: the score less the logarithm of the sum of the scores' exponentials. -/
theorem logSoftmax_apply (v : FVec Ideal S1x100000 .f32) (g : ℕ → ℝ) (hv : ∀ i : S1x100000.Idx, v i = g (i 1).val) (i : S1x100000.Idx) :
    logSoftmax v i = ((g (i 1).val - Real.log (∑ n ∈ Finset.range 100000, Real.exp (g n)) : ℝ) : EReal) := by
  obtain ⟨m, hs⟩ := shifted_apply v g hv
  have hL : 0 < ∑ n ∈ Finset.range 100000, Real.exp (g n) := Finset.sum_pos (fun _ _ => Real.exp_pos _) ⟨0, by simp⟩
  have hsum : Host.reduceAdd (Host.exp (shifted v)) (constant S_ .f32 0x00000000#32) reducesTo_S1x100000_S1_d1 h_S_ (ix1 0)
      = ∑ n ∈ Finset.range 100000, Ideal.exp (((g n : ℝ) : EReal) - (m : EReal)) := by
    refine (Ideal.hostReduceAdd_total reducesTo_S1x100000_S1_d1 (fun b : Fin 1 => by obtain rfl : b = 0 := Subsingleton.elim _ _; rfl) _ _ _).trans ?_
    refine (congrArg₂ (· + ·) Ideal.ofBits_zero_f32 ?_).trans (zero_add _)
    exact (Finset.sum_congr rfl fun i _ => congrArg Ideal.exp (hs i)).trans (sum_row2 100000 fun n => Ideal.exp (((g n : ℝ) : EReal) - (m : EReal)))
  rw [logSoftmax_of_sum v _ hsum i, hs i]
  exact shifted_close (Finset.range 100000) g m (g (i 1).val) hL

end Cert.ReferenceIdeal.Hand

end
-- ==== Proof.Agree.lean ====
/-
  The equation: on indices in the table and real embeddings, weights and biases, the kernel's result is the reference's.
-/
module

public import proofs.«01_k».proof.Proof.Ideal.OutValue
public import proofs.«01_k».proof.Proof.RefValue

@[expose] public section

noncomputable section

namespace Cert.Shared

open Idealize.ShloMosaic Idealize.ShloMosaic.TcCoe
open Idealize.ShloMosaic.ValueIdx (ix1 ix2 eq_ix2)
open Cert.KernelIdeal.Hand (InRange tblOf outs inX inE inW inB)
open Cert.KernelIdeal.Gen (V0 V4)

variable (m : (ℓ : Loc Cert.KernelIdeal.nD Cert.KernelIdeal.τ Cert.KernelIdeal.sig) → Buf (Elt Ideal) ℓ) (hV : InRange (tblOf (V0 m)))
variable (c : Dev Cert.KernelIdeal.nD)

/-- The kernel's result is the reference's log-softmax of the reference's scores of the same arguments. -/
theorem outputs_agree (hx : ∀ j, (inX m c j).toNat < 100000) (he : ∀ j, inE m c j ≠ ⊤ ∧ inE m c j ≠ ⊥)
    (hw : ∀ j, inW m c j ≠ ⊤ ∧ inW m c j ≠ ⊥) (hb : ∀ j, inB m c j ≠ ⊤ ∧ inB m c j ≠ ⊥) :
    (V4 m (outs m hV) c (Proc.devRef .tc Cert.KernelIdeal.main_v4) : Vec Ideal Cert.KernelIdeal.S1x100000 .f32)
      = Cert.ReferenceIdeal.Hand.logSoftmax (Cert.ReferenceIdeal.Hand.scores (inX m c) (inE m c) (inW m c) (inB m c)) := by
  obtain ⟨g, hg⟩ := exists_scores (inX m c) hx (inE m c) (inW m c) (inB m c) he hw hb
  funext y
  refine (Cert.KernelIdeal.Hand.result_apply m hV c hx g hg y).trans
    (Cert.ReferenceIdeal.Hand.logSoftmax_apply _ g (fun i => ?_) y).symm
  obtain ⟨v, rfl⟩ : ∃ v : Fin 100000, i = ix2 0 v :=
    ⟨i 1, (eq_ix2 i).trans (congrArg (ix2 · (i 1)) (Subsingleton.elim (α := Fin 1) _ _))⟩
  exact (Cert.ReferenceIdeal.Hand.scores_apply _ hx _ _ _ v).trans (hg v)

end Cert.Shared

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_vocab
public import proofs.«01_k».proof.Proof.Gen.Pre_finite_in_vocab
public import proofs.«01_k».proof.Proof.Run
public import proofs.«01_k».proof.Proof.Ideal.Run
public import proofs.«01_k».proof.Proof.RefRun
public import proofs.«01_k».proof.Proof.Pre
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel as written, under the first precondition: the run ends with the arguments as they were and every semaphore zero. -/
theorem frame_Kernel : Cert.quiescent_Kernel := fun m g hpre =>
  Idealize.ShloMosaic.θ_run_mono (Cert.Kernel.Hand.run_args m (fun j => Cert.Shared.word_lt_of_in_vocab (hpre 0) j) g)
    fun _ h => ⟨fun c => ⟨(h.1 c).1, (h.1 c).2.1, (h.1 c).2.2.1, (h.1 c).2.2.2.1⟩, h.2⟩

/-- The same of the kernel over the extended reals. -/
theorem frame_KernelIdeal : Cert.quiescent_KernelIdeal := fun m g hpre =>
  Idealize.ShloMosaic.θ_run_mono (Cert.KernelIdeal.Hand.run_args m (fun j => Cert.Shared.word_lt_of_in_vocab (hpre 0) j) g)
    fun _ h => ⟨fun c => ⟨(h.1 c).1, (h.1 c).2.1, (h.1 c).2.2.1, (h.1 c).2.2.2.1⟩, h.2⟩

/-- The same under the second precondition. -/
theorem frame_KernelIdeal_finite : Cert.quiescent_KernelIdeal_pre_finite_in_vocab := fun m g hpre =>
  Idealize.ShloMosaic.θ_run_mono (Cert.KernelIdeal.Hand.run_args m (fun j => (Cert.Shared.of_finite_in_vocab (hpre 0)).1 j) g)
    fun _ h => ⟨fun c => ⟨(h.1 c).1, (h.1 c).2.1, (h.1 c).2.2.1, (h.1 c).2.2.2.1⟩, h.2⟩

/-- The reference's run ends with the arguments as they were and every semaphore zero. -/
theorem frame_ReferenceIdeal : Cert.quiescent_ReferenceIdeal := fun m g _ =>
  Idealize.ShloMosaic.θ_run_mono (Cert.ReferenceIdeal.Hand.run m g)
    fun _ h => ⟨fun c => ⟨(h.1 c).1, (h.1 c).2.1, (h.1 c).2.2.1, (h.1 c).2.2.2.1⟩, h.2⟩

/-- Under the second precondition the kernel and the reference, over the extended reals and from the same arguments, end with the same
    result and their arguments as they were. -/
theorem algebraic : Cert.algebraic_KernelIdeal_ReferenceIdeal_pre_finite_in_vocab := fun m g m' g' hpre hargs => by
  have hf := fun c : Dev Cert.KernelIdeal.nD => Cert.Shared.of_finite_in_vocab (hpre c)
  refine ⟨_, Idealize.ShloMosaic.θ_run_mono (Cert.KernelIdeal.Hand.run_args m (fun j => (hf 0).1 j) g)
      fun _ h c => ⟨(h.1 c).2.2.2.2, (h.1 c).1, (h.1 c).2.1, (h.1 c).2.2.1, (h.1 c).2.2.2.1⟩,
    Idealize.ShloMosaic.θ_run_mono (Cert.ReferenceIdeal.Hand.run m' g')
      fun _ h c => ⟨?_, (h.1 c).1, (h.1 c).2.1, (h.1 c).2.2.1, (h.1 c).2.2.2.1⟩⟩
  refine ((h.1 c).2.2.2.2).trans ?_
  rw [(hargs c).1, (hargs c).2.1, (hargs c).2.2.1, (hargs c).2.2.2]
  exact (Cert.Shared.outputs_agree m _ c (hf c).1 (hf c).2.1 (hf c).2.2.1 (hf c).2.2.2).symm

theorem claim : Cert.Claim := ⟨Cert.Kernel.Gen.facts, Cert.KernelIdeal.Gen.facts, Cert.ReferenceIdeal.Gen.facts, Cert.Pre_in_vocab.Gen.facts, Cert.Pre_finite_in_vocab.Gen.facts,
  frame_Kernel, frame_KernelIdeal, frame_KernelIdeal_finite, frame_ReferenceIdeal, fun m g _ => frame_ReferenceIdeal m g trivial, trivial, algebraic⟩

end Cert.Proof

end
